-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v4_1)) (v4 : (c : Dev Cert.KernelIdeal.nD) → Buf (Elt Ideal) ((c.tc : Thread Cert.KernelIdeal.nD Cert.KernelIdeal.τ).loc Cert.KernelIdeal.main_v4_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v4_1) = v3 c
          ∧ r.2.mem ((c.tc : Thread Cert.KernelIdeal.nD Cert.KernelIdeal.τ).loc Cert.KernelIdeal.main_v4_0) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v181) = v0 c
          ∧ r.2.mem ((c.tc : Thread Cert.ReferenceIdeal.nD Cert.ReferenceIdeal.τ).loc Cert.ReferenceIdeal.main_v188) = v1 c
          ∧ r.2.mem ((c.tc : Thread Cert.ReferenceIdeal.nD Cert.ReferenceIdeal.τ).loc Cert.ReferenceIdeal.main_v182) = v2 c
          ∧ r.2.mem ((c.tc : Thread Cert.ReferenceIdeal.nD Cert.ReferenceIdeal.τ).loc Cert.ReferenceIdeal.main_v193) = v3 c
          ∧ r.2.mem ((c.tc : Thread Cert.ReferenceIdeal.nD Cert.ReferenceIdeal.τ).loc Cert.ReferenceIdeal.main_v198) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2048x4x32 : Shape := ⟨3, ![2048, 4, 32]⟩
abbrev S4x8192x32 : Shape := ⟨3, ![4, 8192, 32]⟩
abbrev S_ : Shape := ⟨0, ![]⟩

class Facts : Prop where
  bcast_S_S2048x4x32 : S_.BroadcastsInDim S2048x4x32 (![] : Fin 0 → Fin S2048x4x32.rank)
  reducesTo_S2048x4x32_S_d0_1_2 : S2048x4x32.ReducesTo [0, 1, 2] S_
  h_S_ : 0 < S_.numel
  bcast_S_S4x8192x32 : S_.BroadcastsInDim S4x8192x32 (![] : Fin 0 → Fin S4x8192x32.rank)
  reducesTo_S4x8192x32_S_d0_1_2 : S4x8192x32.ReducesTo [0, 1, 2] S_

variable [Facts]

def fn {F : FTy → Type} [FloatOps F] (main_arg0 : FVec F S2048x4x32 .f32) (main_arg1 : FVec F S4x8192x32 .f32) : IVec S_ 1 :=
  let main_v0 : FVec F S2048x4x32 .f32 := Host.absf main_arg0
  let main_cst : FVec F S_ .f32 := constant S_ .f32 0x7F800000#32
  let main_v1 : FVec F S2048x4x32 .f32 := broadcastInDim S2048x4x32 ![] bcast_S_S2048x4x32 main_cst
  let main_v2 : IVec S2048x4x32 1 := cmpf .olt main_v0 main_v1
  let main_c : IVec S_ 1 := constantI S_ 1 1#1
  let main_v3 : IVec S_ 1 := (fun x v => Host.reduce IntOp.andi x v reducesTo_S2048x4x32_S_d0_1_2 h_S_) main_v2 main_c
  let main_v4 : FVec F S4x8192x32 .f32 := Host.absf main_arg1
  let main_cst_0 : FVec F S_ .f32 := constant S_ .f32 0x7F800000#32
  let main_v5 : FVec F S4x8192x32 .f32 := broadcastInDim S4x8192x32 ![] bcast_S_S4x8192x32 main_cst_0
  let main_v6 : IVec S4x8192x32 1 := cmpf .olt main_v4 main_v5
  let main_c_1 : IVec S_ 1 := constantI S_ 1 1#1
  let main_v7 : IVec S_ 1 := (fun x v => Host.reduce IntOp.andi x v reducesTo_S4x8192x32_S_d0_1_2 h_S_) main_v6 main_c_1
  let main_v8 : IVec S_ 1 := andi main_v3 main_v7
  main_v8
-- ==== Kernel.lean ====
abbrev S2048x4x32 : Shape := ⟨3, ![2048, 4, 32]⟩
abbrev S4x8192x32 : Shape := ⟨3, ![4, 8192, 32]⟩
abbrev S4x2048x32 : Shape := ⟨3, ![4, 2048, 32]⟩
abbrev S_ : Shape := ⟨0, ![]⟩
abbrev S4x8192 : Shape := ⟨2, ![4, 8192]⟩
abbrev S4x1x8192 : Shape := ⟨3, ![4, 1, 8192]⟩
abbrev S4x2048x8192 : Shape := ⟨3, ![4, 2048, 8192]⟩
abbrev S1x1 : Shape := ⟨2, ![1, 1]⟩
abbrev S1x128x32 : Shape := ⟨3, ![1, 128, 32]⟩
abbrev S1x8192x32 : Shape := ⟨3, ![1, 8192, 32]⟩
abbrev S1x1x8192 : Shape := ⟨3, ![1, 1, 8192]⟩
abbrev S1x128x8192 : Shape := ⟨3, ![1, 128, 8192]⟩
abbrev S1x8192 : Shape := ⟨2, ![1, 8192]⟩
abbrev S128x32 : Shape := ⟨2, ![128, 32]⟩
abbrev S8192x32 : Shape := ⟨2, ![8192, 32]⟩
abbrev S32x1 : Shape := ⟨2, ![32, 1]⟩
abbrev S128x1 : Shape := ⟨2, ![128, 1]⟩
abbrev S1x4096 : Shape := ⟨2, ![1, 4096]⟩
abbrev S128x4096 : Shape := ⟨2, ![128, 4096]⟩
abbrev S1x4096x32 : Shape := ⟨3, ![1, 4096, 32]⟩
abbrev S4096x32 : Shape := ⟨2, ![4096, 32]⟩
abbrev S1x1x4096 : Shape := ⟨3, ![1, 1, 4096]⟩
abbrev S128 : Shape := ⟨1, ![128]⟩
abbrev S128x8192 : Shape := ⟨2, ![128, 8192]⟩
abbrev S1 : Shape := ⟨1, ![1]⟩
abbrev S1x1x1 : Shape := ⟨3, ![1, 1, 1]⟩
abbrev S1x128 : Shape := ⟨2, ![1, 128]⟩

abbrev nBuf : Space → Nat
  | .hbm => 21
  | .vmem => 15
  | .smem => 0
  | _ => 0

abbrev bufTy : (tb : Table) → Fin (tcTables nBuf tb) → BufTy
  | .hbm, ⟨0, _⟩ => ⟨S2048x4x32, .f32⟩
  | .hbm, ⟨1, _⟩ => ⟨S4x8192x32, .f32⟩
  | .hbm, ⟨2, _⟩ => ⟨S4x2048x32, .f32⟩
  | .hbm, ⟨3, _⟩ => ⟨S4x8192x32, .f32⟩
  | .hbm, ⟨4, _⟩ => ⟨S_, .f32⟩
  | .hbm, ⟨5, _⟩ => ⟨S4x8192, .f32⟩
  | .hbm, ⟨6, _⟩ => ⟨S4x1x8192, .f32⟩
  | .hbm, ⟨7, _⟩ => ⟨S4x2048x8192, .f32⟩
  | .hbm, ⟨8, _⟩ => ⟨S4x2048x32, .f32⟩
  | .hbm, ⟨9, _⟩ => ⟨S4x2048x32, .f32⟩
  | .hbm, ⟨10, _⟩ => ⟨S1x1, .f32⟩
  | .hbm, ⟨11, _⟩ => ⟨S1x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S2048x4x32, .f32⟩
  | .local _ .vmem, ⟨0, _⟩ => ⟨S1x128x32, .f32⟩
  | .local _ .vmem, ⟨1, _⟩ => ⟨S1x128x32, .f32⟩
  | .local _ .vmem, ⟨2, _⟩ => ⟨S1x8192x32, .f32⟩
  | .local _ .vmem, ⟨3, _⟩ => ⟨S1x8192x32, .f32⟩
  | .local _ .vmem, ⟨4, _⟩ => ⟨S1x1x8192, .f32⟩
  | .local _ .vmem, ⟨5, _⟩ => ⟨S1x1x8192, .f32⟩
  | .local _ .vmem, ⟨6, _⟩ => ⟨S1x128x8192, .f32⟩
  | .local _ .vmem, ⟨7, _⟩ => ⟨S1x128x8192, .f32⟩
  | .local _ .vmem, ⟨8, _⟩ => ⟨S1x128x32, .f32⟩
  | .local _ .vmem, ⟨9, _⟩ => ⟨S1x128x32, .f32⟩
  | .local _ .vmem, ⟨10, _⟩ => ⟨S1x128x32, .f32⟩
  | .local _ .vmem, ⟨11, _⟩ => ⟨S1x128x32, .f32⟩
  | .local _ .vmem, ⟨12, _⟩ => ⟨S1x1, .f32⟩
  | .local _ .vmem, ⟨13, _⟩ => ⟨S1x1, .f32⟩
  | .local _ .vmem, ⟨14, _⟩ => ⟨S1x8192, .f32⟩
  | _, _ => ⟨S2048x4x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v72 : BitVec 32 := Scalar.extui v2
  let c0_i32_35 : BitVec 32 := 0#32
  let v73 : BitVec 1 := Scalar.cmpi .ne v72 c0_i32_35
  v73

def k0_cond4 (i : grid0.Coords) : BitVec 1 :=
  let arg1 : BitVec 32 := BitVec.ofNat 32 (i 1).val
  let c15_i32 : BitVec 32 := 15#32
  let v93 : BitVec 1 := Scalar.cmpi .eq arg1 c15_i32
  let v94 : BitVec 32 := Scalar.extui v93
  let c0_i32_47 : BitVec 32 := 0#32
  let v95 : BitVec 1 := Scalar.cmpi .ne v94 c0_i32_47
  v95

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S2048x4x32 : Shape := ⟨3, ![2048, 4, 32]⟩
abbrev S4x8192x32 : Shape := ⟨3, ![4, 8192, 32]⟩
abbrev S4x2048x32 : Shape := ⟨3, ![4, 2048, 32]⟩
abbrev S1x2048x32 : Shape := ⟨3, ![1, 2048, 32]⟩
abbrev S2048x32 : Shape := ⟨2, ![2048, 32]⟩
abbrev S1x8192x32 : Shape := ⟨3, ![1, 8192, 32]⟩
abbrev S8192x32 : Shape := ⟨2, ![8192, 32]⟩
abbrev S_ : Shape := ⟨0, ![]⟩
abbrev S2048 : Shape := ⟨1, ![2048]⟩
abbrev S2048x1 : Shape := ⟨2, ![2048, 1]⟩
abbrev S8192 : Shape := ⟨1, ![8192]⟩
abbrev S1x8192 : Shape := ⟨2, ![1, 8192]⟩
abbrev S2048x8192 : Shape := ⟨2, ![2048, 8192]⟩
abbrev S32x8192 : Shape := ⟨2, ![32, 8192]⟩
abbrev S1x2048x8192 : Shape := ⟨3, ![1, 2048, 8192]⟩
abbrev S4x2048x8192 : Shape := ⟨3, ![4, 2048, 8192]⟩

abbrev nBuf : Space → Nat
  | .hbm => 289
  | .vmem => 0
  | .smem => 0
  | _ => 0

abbrev hbmTy0_0 (i : Nat) : BufTy := match i % 128 with
  | 0 => ⟨S2048x4x32, .f32⟩
  | 1 => ⟨S4x8192x32, .f32⟩
  | 2 => ⟨S4x2048x32, .f32⟩
  | 3 => ⟨S1x2048x32, .f32⟩
  | 4 => ⟨S2048x32, .f32⟩
  | 5 => ⟨S1x8192x32, .f32⟩
  | 6 => ⟨S8192x32, .f32⟩
  | 7 => ⟨S2048x32, .f32⟩
  | 8 => ⟨S_, .f32⟩
  | 9 => ⟨S2048, .f32⟩
  | 10 => ⟨S2048x1, .f32⟩
  | 11 => ⟨S8192x32, .f32⟩
  | 12 => ⟨S_, .f32⟩
  | 13 => ⟨S8192, .f32⟩
  | 14 => ⟨S1x8192, .f32⟩
  | 15 => ⟨S2048x8192, .f32⟩
  | 16 => ⟨S2048x8192, .f32⟩
  | 17 => ⟨S2048x8192, .f32⟩
  | 18 => ⟨S32x8192, .f32⟩
  | 19 => ⟨S2048x8192, .f32⟩
  | 20 => ⟨S_, .f32⟩
  | 21 => ⟨S2048x8192, .f32⟩
  | 22 => ⟨S2048x8192, .f32⟩
  | 23 => ⟨S2048x8192, .f32⟩
  | 24 => ⟨S2048x8192, .i32⟩
  | 25 => ⟨S_, .f32⟩
  | 26 => ⟨S_, .i32⟩
  | 27 => ⟨S2048, .f32⟩
  | 28 => ⟨S2048, .i32⟩
  | 29 => ⟨S2048x1, .i32⟩
  | 30 => ⟨S1x8192, .i32⟩
  | 31 => ⟨S2048x8192, .i32⟩
  | 32 => ⟨S2048x8192, .i32⟩
  | 33 => ⟨S2048x8192, .i1⟩
  | 34 => ⟨S2048x8192, .f32⟩
  | 35 => ⟨S2048x32, .f32⟩
  | 36 => ⟨S2048x32, .f32⟩
  | 37 => ⟨S2048x32, .f32⟩
  | 38 => ⟨S_, .f32⟩
  | 39 => ⟨S_, .f32⟩
  | 40 => ⟨S_, .f32⟩
  | 41 => ⟨S_, .f32⟩
  | 42 => ⟨S2048x32, .f32⟩
  | 43 => ⟨S2048x32, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S2048x32, .f32⟩
  | 54 => ⟨S2048x32, .f32⟩
  | 55 => ⟨S_, .f32⟩
  | 56 => ⟨S8192, .f32⟩
  | 57 => ⟨S_, .f32⟩
  | 58 => ⟨S8192, .f32⟩
  | 59 => ⟨S8192, .f32⟩
  | 60 => ⟨S_, .f32⟩
  | 61 => ⟨S8192, .f32⟩
  | 62 => ⟨S8192, .f32⟩
  | 63 => ⟨S8192, .f32⟩
  | 64 => ⟨S8192, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S1x2048x32, .f32⟩
  | 72 => ⟨S2048x32, .f32⟩
  | 73 => ⟨S1x8192x32, .f32⟩
  | 74 => ⟨S8192x32, .f32⟩
  | 75 => ⟨S2048x32, .f32⟩
  | 76 => ⟨S_, .f32⟩
  | 77 => ⟨S2048, .f32⟩
  | 78 => ⟨S2048x1, .f32⟩
  | 79 => ⟨S8192x32, .f32⟩
  | 80 => ⟨S_, .f32⟩
  | 81 => ⟨S8192, .f32⟩
  | 82 => ⟨S1x8192, .f32⟩
  | 83 => ⟨S2048x8192, .f32⟩
  | 84 => ⟨S2048x8192, .f32⟩
  | 85 => ⟨S2048x8192, .f32⟩
  | 86 => ⟨S32x8192, .f32⟩
  | 87 => ⟨S2048x8192, .f32⟩
  | 88 => ⟨S_, .f32⟩
  | 89 => ⟨S2048x8192, .f32⟩
  | 90 => ⟨S2048x8192, .f32⟩
  | 91 => ⟨S2048x8192, .f32⟩
  | 92 => ⟨S2048x8192, .i32⟩
  | 93 => ⟨S_, .f32⟩
  | 94 => ⟨S_, .i32⟩
  | 95 => ⟨S2048, .f32⟩
  | 96 => ⟨S2048, .i32⟩
  | 97 => ⟨S2048x1, .i32⟩
  | 98 => ⟨S1x8192, .i32⟩
  | 99 => ⟨S2048x8192, .i32⟩
  | 100 => ⟨S2048x8192, .i32⟩
  | 101 => ⟨S2048x8192, .i1⟩
  | 102 => ⟨S2048x8192, .f32⟩
  | 103 => ⟨S2048x32, .f32⟩
  | 104 => ⟨S2048x32, .f32⟩
  | 105 => ⟨S2048x32, .f32⟩
  | 106 => ⟨S_, .f32⟩
  | 107 => ⟨S_, .f32⟩
  | 108 => ⟨S_, .f32⟩
  | 109 => ⟨S_, .f32⟩
  | 110 => ⟨S2048x32, .f32⟩
  | 111 => ⟨S2048x32, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S2048x32, .f32⟩
  | 121 => ⟨S2048x32, .f32⟩
  | 122 => ⟨S_, .f32⟩
  | 123 => ⟨S8192, .f32⟩
  | 124 => ⟨S_, .f32⟩
  | 125 => ⟨S8192, .f32⟩
  | 126 => ⟨S8192, .f32⟩
  | 127 => ⟨S_, .f32⟩
  | _ => ⟨S2048x4x32, .f32⟩

abbrev hbmTy0_1 (i : Nat) : BufTy := match i % 128 with
  | 0 => ⟨S8192, .f32⟩
  | 1 => ⟨S8192, .f32⟩
  | 2 => ⟨S8192, .f32⟩
  | 3 => ⟨S8192, .f32⟩
  | 4 => ⟨S_, .f32⟩
  | 5 => ⟨S_, .f32⟩
  | 6 => ⟨S_, .f32⟩
  | 7 => ⟨S_, .f32⟩
  | 8 => ⟨S_, .f32⟩
  | 9 => ⟨S1x2048x32, .f32⟩
  | 10 => ⟨S2048x32, .f32⟩
  | 11 => ⟨S1x8192x32, .f32⟩
  | 12 => ⟨S8192x32, .f32⟩
  | 13 => ⟨S2048x32, .f32⟩
  | 14 => ⟨S_, .f32⟩
  | 15 => ⟨S2048, .f32⟩
  | 16 => ⟨S2048x1, .f32⟩
  | 17 => ⟨S8192x32, .f32⟩
  | 18 => ⟨S_, .f32⟩
  | 19 => ⟨S8192, .f32⟩
  | 20 => ⟨S1x8192, .f32⟩
  | 21 => ⟨S2048x8192, .f32⟩
  | 22 => ⟨S2048x8192, .f32⟩
  | 23 => ⟨S2048x8192, .f32⟩
  | 24 => ⟨S32x8192, .f32⟩
  | 25 => ⟨S2048x8192, .f32⟩
  | 26 => ⟨S_, .f32⟩
  | 27 => ⟨S2048x8192, .f32⟩
  | 28 => ⟨S2048x8192, .f32⟩
  | 29 => ⟨S2048x8192, .f32⟩
  | 30 => ⟨S2048x8192, .i32⟩
  | 31 => ⟨S_, .f32⟩
  | 32 => ⟨S_, .i32⟩
  | 33 => ⟨S2048, .f32⟩
  | 34 => ⟨S2048, .i32⟩
  | 35 => ⟨S2048x1, .i32⟩
  | 36 => ⟨S1x8192, .i32⟩
  | 37 => ⟨S2048x8192, .i32⟩
  | 38 => ⟨S2048x8192, .i32⟩
  | 39 => ⟨S2048x8192, .i1⟩
  | 40 => ⟨S2048x8192, .f32⟩
  | 41 => ⟨S2048x32, .f32⟩
  | 42 => ⟨S2048x32, .f32⟩
  | 43 => ⟨S2048x32, .f32⟩
  | 44 => ⟨S_, .f32⟩
  | 45 => ⟨S_, .f32⟩
  | 46 => ⟨S_, .f32⟩
  | 47 => ⟨S_, .f32⟩
  | 48 => ⟨S2048x32, .f32⟩
  | 49 => ⟨S2048x32, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S2048x32, .f32⟩
  | 59 => ⟨S2048x32, .f32⟩
  | 60 => ⟨S_, .f32⟩
  | 61 => ⟨S8192, .f32⟩
  | 62 => ⟨S_, .f32⟩
  | 63 => ⟨S8192, .f32⟩
  | 64 => ⟨S8192, .f32⟩
  | 65 => ⟨S_, .f32⟩
  | 66 => ⟨S8192, .f32⟩
  | 67 => ⟨S8192, .f32⟩
  | 68 => ⟨S8192, .f32⟩
  | 69 => ⟨S8192, .f32⟩
  | 70 => ⟨S_, .f32⟩
  | 71 => ⟨S_, .f32⟩
  | 72 => ⟨S_, .f32⟩
  | 73 => ⟨S_, .f32⟩
  | 74 => ⟨S_, .f32⟩
  | 75 => ⟨S1x2048x32, .f32⟩
  | 76 => ⟨S2048x32, .f32⟩
  | 77 => ⟨S1x8192x32, .f32⟩
  | 78 => ⟨S8192x32, .f32⟩
  | 79 => ⟨S2048x32, .f32⟩
  | 80 => ⟨S_, .f32⟩
  | 81 => ⟨S2048, .f32⟩
  | 82 => ⟨S2048x1, .f32⟩
  | 83 => ⟨S8192x32, .f32⟩
  | 84 => ⟨S_, .f32⟩
  | 85 => ⟨S8192, .f32⟩
  | 86 => ⟨S1x8192, .f32⟩
  | 87 => ⟨S2048x8192, .f32⟩
  | 88 => ⟨S2048x8192, .f32⟩
  | 89 => ⟨S2048x8192, .f32⟩
  | 90 => ⟨S32x8192, .f32⟩
  | 91 => ⟨S2048x8192, .f32⟩
  | 92 => ⟨S_, .f32⟩
  | 93 => ⟨S2048x8192, .f32⟩
  | 94 => ⟨S2048x8192, .f32⟩
  | 95 => ⟨S2048x8192, .f32⟩
  | 96 => ⟨S2048x8192, .i32⟩
  | 97 => ⟨S_, .f32⟩
  | 98 => ⟨S_, .i32⟩
  | 99 => ⟨S2048, .f32⟩
  | 100 => ⟨S2048, .i32⟩
  | 101 => ⟨S2048x1, .i32⟩
  | 102 => ⟨S1x8192, .i32⟩
  | 103 => ⟨S2048x8192, .i32⟩
  | 104 => ⟨S2048x8192, .i32⟩
  | 105 => ⟨S2048x8192, .i1⟩
  | 106 => ⟨S2048x8192, .f32⟩
  | 107 => ⟨S2048x32, .f32⟩
  | 108 => ⟨S2048x32, .f32⟩
  | 109 => ⟨S2048x32, .f32⟩
  | 110 => ⟨S_, .f32⟩
  | 111 => ⟨S_, .f32⟩
  | 112 => ⟨S_, .f32⟩
  | 113 => ⟨S_, .f32⟩
  | 114 => ⟨S2048x32, .f32⟩
  | 115 => ⟨S2048x32, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S2048x32, .f32⟩
  | 125 => ⟨S2048x32, .f32⟩
  | 126 => ⟨S_, .f32⟩
  | 127 => ⟨S8192, .f32⟩
  | _ => ⟨S2048x4x32, .f32⟩

abbrev hbmTy0_2 (i : Nat) : BufTy := match i % 128 with
  | 0 => ⟨S_, .f32⟩
  | 1 => ⟨S8192, .f32⟩
  | 2 => ⟨S8192, .f32⟩
  | 3 => ⟨S_, .f32⟩
  | 4 => ⟨S8192, .f32⟩
  | 5 => ⟨S8192, .f32⟩
  | 6 => ⟨S8192, .f32⟩
  | 7 => ⟨S8192, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S1x2048x32, .f32⟩
  | 18 => ⟨S1x2048x32, .f32⟩
  | 19 => ⟨S1x2048x32, .f32⟩
  | 20 => ⟨S1x2048x32, .f32⟩
  | 21 => ⟨S4x2048x32, .f32⟩
  | 22 => ⟨S2048x4x32, .f32⟩
  | 23 => ⟨S1x2048x32, .f32⟩
  | 24 => ⟨S1x2048x32, .f32⟩
  | 25 => ⟨S1x2048x32, .f32⟩
  | 26 => ⟨S1x2048x32, .f32⟩
  | 27 => ⟨S4x2048x32, .f32⟩
  | 28 => ⟨S1x2048x8192, .f32⟩
  | 29 => ⟨S1x2048x8192, .f32⟩
  | 30 => ⟨S1x2048x8192, .f32⟩
  | 31 => ⟨S1x2048x8192, .f32⟩
  | 32 => ⟨S4x2048x8192, .f32⟩
  | _ => ⟨S2048x4x32, .f32⟩

abbrev hbmTy (i : Nat) : BufTy := match i / 128 with
  | 0 => hbmTy0_0 i
  | 1 => hbmTy0_1 i
  | 2 => hbmTy0_2 i
  | _ => ⟨S2048x4x32, .f32⟩

abbrev bufTy : (tb : Table) → Fin (tcTables nBuf tb) → BufTy
  | .hbm, ⟨i, _⟩ => hbmTy i
  | _, _ => ⟨S2048x4x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_call0_v0 : Ref sig .tc := ⟨.hbm, 24, rfl⟩
abbrev main_call0_cst : Ref sig .tc := ⟨.hbm, 25, rfl⟩
abbrev main_call0_c : Ref sig .tc := ⟨.hbm, 26, rfl⟩
abbrev main_call0_v1_0 : Ref sig .tc := ⟨.hbm, 27, rfl⟩
abbrev main_v19 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_cst_10 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_11 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_12 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_13 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_14 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_15 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_call2_v0 : Ref sig .tc := ⟨.hbm, 92, rfl⟩
abbrev main_call2_cst : Ref sig .tc := ⟨.hbm, 93, rfl⟩
abbrev main_call2_c : Ref sig .tc := ⟨.hbm, 94, rfl⟩
abbrev main_call2_v1_0 : Ref sig .tc := ⟨.hbm, 95, rfl⟩
abbrev main_v64 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_16 : Ref sig .tc := ⟨.hbm, 106, rfl⟩
abbrev main_v69 : Ref sig .tc := ⟨.hbm, 107, rfl⟩
abbrev main_cst_17 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_18 : Ref sig .tc := ⟨.hbm, 112, rfl⟩
abbrev main_v73 : Ref sig .tc := ⟨.hbm, 113, rfl⟩
abbrev main_cst_19 : Ref sig .tc := ⟨.hbm, 114, rfl⟩
abbrev main_v74 : Ref sig .tc := ⟨.hbm, 115, rfl⟩
abbrev main_v75 : Ref sig .tc := ⟨.hbm, 116, rfl⟩
abbrev main_cst_20 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_cst_21 : Ref sig .tc := ⟨.hbm, 122, rfl⟩
abbrev main_v80 : Ref sig .tc := ⟨.hbm, 123, rfl⟩
abbrev main_cst_22 : Ref sig .tc := ⟨.hbm, 124, rfl⟩
abbrev main_v81 : Ref sig .tc := ⟨.hbm, 125, rfl⟩
abbrev main_v82 : Ref sig .tc := ⟨.hbm, 126, rfl⟩
abbrev main_cst_23 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_cst_24 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst_25 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_cst_26 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_cst_27 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_call4_v0 : Ref sig .tc := ⟨.hbm, 158, rfl⟩
abbrev main_call4_cst : Ref sig .tc := ⟨.hbm, 159, rfl⟩
abbrev main_call4_c : Ref sig .tc := ⟨.hbm, 160, rfl⟩
abbrev main_call4_v1_0 : Ref sig .tc := ⟨.hbm, 161, rfl⟩
abbrev main_v109 : Ref sig .tc := ⟨.hbm, 162, rfl⟩
abbrev main_call5_v0 : Ref sig .tc := ⟨.hbm, 163, rfl⟩
abbrev main_call5_v1 : Ref sig .tc := ⟨.hbm, 164, rfl⟩
abbrev main_call5_v2 : Ref sig .tc := ⟨.hbm, 165, rfl⟩
abbrev main_call5_v3 : Ref sig .tc := ⟨.hbm, 166, rfl⟩
abbrev main_call5_v4 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_cst_28 : Ref sig .tc := ⟨.hbm, 172, rfl⟩
abbrev main_v114 : Ref sig .tc := ⟨.hbm, 173, rfl⟩
abbrev main_cst_29 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_cst_30 : Ref sig .tc := ⟨.hbm, 178, rfl⟩
abbrev main_v118 : Ref sig .tc := ⟨.hbm, 179, rfl⟩
abbrev main_cst_31 : Ref sig .tc := ⟨.hbm, 180, rfl⟩
abbrev main_v119 : Ref sig .tc := ⟨.hbm, 181, rfl⟩
abbrev main_v120 : Ref sig .tc := ⟨.hbm, 182, rfl⟩
abbrev main_cst_32 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_cst_33 : Ref sig .tc := ⟨.hbm, 188, rfl⟩
abbrev main_v125 : Ref sig .tc := ⟨.hbm, 189, rfl⟩
abbrev main_cst_34 : Ref sig .tc := ⟨.hbm, 190, rfl⟩
abbrev main_v126 : Ref sig .tc := ⟨.hbm, 191, rfl⟩
abbrev main_v127 : Ref sig .tc := ⟨.hbm, 192, rfl⟩
abbrev main_cst_35 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_cst_36 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_cst_37 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_cst_38 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_cst_39 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_call6_v0 : Ref sig .tc := ⟨.hbm, 224, rfl⟩
abbrev main_call6_cst : Ref sig .tc := ⟨.hbm, 225, rfl⟩
abbrev main_call6_c : Ref sig .tc := ⟨.hbm, 226, rfl⟩
abbrev main_call6_v1_0 : Ref sig .tc := ⟨.hbm, 227, rfl⟩
abbrev main_v154 : Ref sig .tc := ⟨.hbm, 228, rfl⟩
abbrev main_call7_v0 : Ref sig .tc := ⟨.hbm, 229, rfl⟩
abbrev main_call7_v1 : Ref sig .tc := ⟨.hbm, 230, rfl⟩
abbrev main_call7_v2 : Ref sig .tc := ⟨.hbm, 231, rfl⟩
abbrev main_call7_v3 : Ref sig .tc := ⟨.hbm, 232, rfl⟩
abbrev main_call7_v4 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_cst_40 : Ref sig .tc := ⟨.hbm, 238, rfl⟩
abbrev main_v159 : Ref sig .tc := ⟨.hbm, 239, rfl⟩
abbrev main_cst_41 : Ref sig .tc := ⟨.hbm, 240, rfl⟩
abbrev main_v160 : Ref sig .tc := ⟨.hbm, 241, rfl⟩
abbrev main_v161 : Ref sig .tc := ⟨.hbm, 242, rfl⟩
abbrev main_v162 : Ref sig .tc := ⟨.hbm, 243, rfl⟩
abbrev main_cst_42 : Ref sig .tc := ⟨.hbm, 244, rfl⟩
abbrev main_v163 : Ref sig .tc := ⟨.hbm, 245, rfl⟩
abbrev main_cst_43 : Ref sig .tc := ⟨.hbm, 246, rfl⟩
abbrev main_v164 : Ref sig .tc := ⟨.hbm, 247, rfl⟩
abbrev main_v165 : Ref sig .tc := ⟨.hbm, 248, rfl⟩
abbrev main_cst_44 : Ref sig .tc := ⟨.hbm, 249, rfl⟩
abbrev main_v166 : Ref sig .tc := ⟨.hbm, 250, rfl⟩
abbrev main_v167 : Ref sig .tc := ⟨.hbm, 251, rfl⟩
abbrev main_v168 : Ref sig .tc := ⟨.hbm, 252, rfl⟩
abbrev main_v169 : Ref sig .tc := ⟨.hbm, 253, rfl⟩
abbrev main_cst_45 : Ref sig .tc := ⟨.hbm, 254, rfl⟩
abbrev main_v170 : Ref sig .tc := ⟨.hbm, 255, rfl⟩
abbrev main_cst_46 : Ref sig .tc := ⟨.hbm, 256, rfl⟩
abbrev main_v171 : Ref sig .tc := ⟨.hbm, 257, rfl⟩
abbrev main_v172 : Ref sig .tc := ⟨.hbm, 258, rfl⟩
abbrev main_cst_47 : Ref sig .tc := ⟨.hbm, 259, rfl⟩
abbrev main_v173 : Ref sig .tc := ⟨.hbm, 260, rfl⟩
abbrev main_v174 : Ref sig .tc := ⟨.hbm, 261, rfl⟩
abbrev main_v175 : Ref sig .tc := ⟨.hbm, 262, rfl⟩
abbrev main_v176 : Ref sig .tc := ⟨.hbm, 263, rfl⟩
abbrev main_cst_48 : Ref sig .tc := ⟨.hbm, 264, rfl⟩
abbrev main_v177 : Ref sig .tc := ⟨.hbm, 265, rfl⟩
abbrev main_v178 : Ref sig .tc := ⟨.hbm, 266, rfl⟩
abbrev main_v179 : Ref sig .tc := ⟨.hbm, 267, rfl⟩
abbrev main_v180 : Ref sig .tc := ⟨.hbm, 268, rfl⟩
abbrev main_cst_49 : Ref sig .tc := ⟨.hbm, 269, rfl⟩
abbrev main_v181 : Ref sig .tc := ⟨.hbm, 270, rfl⟩
abbrev main_cst_50 : Ref sig .tc := ⟨.hbm, 271, rfl⟩
abbrev main_v182 : Ref sig .tc := ⟨.hbm, 272, rfl⟩
abbrev main_v183 : Ref sig .tc := ⟨.hbm, 273, rfl⟩
abbrev main_v184 : Ref sig .tc := ⟨.hbm, 274, rfl⟩
abbrev main_v185 : Ref sig .tc := ⟨.hbm, 275, rfl⟩
abbrev main_v186 : Ref sig .tc := ⟨.hbm, 276, rfl⟩
abbrev main_v187 : Ref sig .tc := ⟨.hbm, 277, rfl⟩
abbrev main_v188 : Ref sig .tc := ⟨.hbm, 278, rfl⟩
abbrev main_v189 : Ref sig .tc := ⟨.hbm, 279, rfl⟩
abbrev main_v190 : Ref sig .tc := ⟨.hbm, 280, rfl⟩
abbrev main_v191 : Ref sig .tc := ⟨.hbm, 281, rfl⟩
abbrev main_v192 : Ref sig .tc := ⟨.hbm, 282, rfl⟩
abbrev main_v193 : Ref sig .tc := ⟨.hbm, 283, rfl⟩
abbrev main_v194 : Ref sig .tc := ⟨.hbm, 284, rfl⟩
abbrev main_v195 : Ref sig .tc := ⟨.hbm, 285, rfl⟩
abbrev main_v196 : Ref sig .tc := ⟨.hbm, 286, rfl⟩
abbrev main_v197 : Ref sig .tc := ⟨.hbm, 287, rfl⟩
abbrev main_v198 : Ref sig .tc := ⟨.hbm, 288, rfl⟩

abbrev nD : Nat := 1
abbrev τ : Topo := Topo.v7x

variable {F : FTy → Type} [FloatOps F]
-- ==== Proof.Least.lean ====
/- The first least entry of a finite row of extended reals, and two ways of finding it: lane by lane over two halves
   (the kernel's way), and by one left fold over (value, index) pairs in any order (the reference's way). -/
module

public import Idealize.ShloMosaic.PureOps
public import Idealize.ShloMosaic.PureOps.Ideal
public import Idealize.ShloMosaic.PureOps.Ideal.Laws
public import Idealize.ShloMosaic.PureOps.Reduce
public import Idealize.ShloMosaic.Lib.Pointwise
public import Idealize.ShloMosaic.Lib.SortNet.Extract

@[expose] public section

noncomputable section

namespace Cert.Least

open Idealize.ShloMosaic

/-- `k` is the first least index of the row `f`: its entry is below every other, and no earlier index has an entry as small. -/
def IsFirst {n : ℕ} (f : Fin n → EReal) (k : Fin n) : Prop := ∀ j, f k ≤ f j ∧ (f j ≤ f k → k ≤ j)

/-- Every nonempty row has a first least index. -/
theorem exists_first {n : ℕ} (f : Fin (n + 1) → EReal) : ∃ k, IsFirst f k := by
  obtain ⟨k0, -, h0⟩ := Finset.exists_min_image Finset.univ f Finset.univ_nonempty
  have hne : (Finset.univ.filter fun k => f k ≤ f k0).Nonempty := ⟨k0, by simp⟩
  refine ⟨(Finset.univ.filter fun k => f k ≤ f k0).min' hne, fun j => ?_⟩
  have hm := Finset.min'_mem _ hne
  simp only [Finset.mem_filter, Finset.mem_univ, true_and] at hm
  exact ⟨hm.trans (h0 j (Finset.mem_univ _)), fun hj => Finset.min'_le _ _ (by simpa using hj.trans hm)⟩

/-- There is at most one first least index. -/
theorem IsFirst.unique {n : ℕ} {f : Fin n → EReal} {a b : Fin n} (ha : IsFirst f a) (hb : IsFirst f b) : a = b :=
  le_antisymm ((ha b).2 (hb a).1) ((hb a).2 (ha b).1)

/-- The first least index of a row. -/
def first {n : ℕ} (f : Fin (n + 1) → EReal) : Fin (n + 1) := (exists_first f).choose

/-- `first f` is the first position at which `f` is least. -/
theorem first_spec {n : ℕ} (f : Fin (n + 1) → EReal) : IsFirst f (first f) := (exists_first f).choose_spec

/-! ### Two halves, lane by lane -/

/-- Suppose each lane `l` of `n` holds the better of the entries at `l` and `l + n` (`pick l`), with its index as a word. The
    least word among the lanes whose value equals the least value is the first least index of the whole row. -/
theorem lanes_first {n N : ℕ} [NeZero n] (hN : N < 2 ^ 31) (f : Fin N → EReal) (k0 : Fin N) (hk : IsFirst f k0)
    (mv : Fin n → EReal) (mi : Fin n → BitVec 32) (pick : Fin n → Fin N) (lane : Fin N → Fin n)
    (hv : ∀ l, mv l = f (pick l)) (hi : ∀ l, mi l = BitVec.ofNat 32 (pick l).val)
    (hp : ∀ k, f (pick (lane k)) ≤ f k ∧ (f k ≤ f (pick (lane k)) → pick (lane k) ≤ k)) :
    (Finset.univ : Finset (Fin n)).fold IntOp.minsi 2147483647#32
        (fun l => if mv l = (Finset.univ : Finset (Fin n)).fold min (⊤ : EReal) mv then mi l else BitVec.ofNat 32 N)
      = BitVec.ofNat 32 k0.val := by
  have hpk : pick (lane k0) = k0 :=
    le_antisymm ((hp k0).2 (hk _).1) ((hk _).2 (hp k0).1)
  have hR : (Finset.univ : Finset (Fin n)).fold min (⊤ : EReal) mv = f k0 := by
    refine le_antisymm ?_ ?_
    · refine (Finset.fold_min_le _).2 (Or.inr ⟨lane k0, Finset.mem_univ _, ?_⟩)
      rw [hv, hpk]
    · refine (Finset.le_fold_min _).2 ⟨le_top, fun l _ => ?_⟩
      rw [hv]; exact (hk _).1
  rw [hR]
  have hint : ∀ a : ℕ, a ≤ N → (BitVec.ofNat 32 a).toInt = (a : ℤ) := fun a ha => by
    rw [BitVec.toInt_eq_toNat_cond, BitVec.toNat_ofNat, Nat.mod_eq_of_lt (by omega), if_pos (by omega)]
  apply BitVec.eq_of_toInt_eq
  have hfold : ∀ s : Finset (Fin n), ∀ g : Fin n → BitVec 32,
      (s.fold IntOp.minsi 2147483647#32 g).toInt = s.fold min (2147483647 : ℤ) fun l => (g l).toInt := by
    intro s g
    exact (Finset.fold_hom (op := IntOp.minsi) (op' := min) (m := BitVec.toInt) (b := 2147483647#32) (s := s) (f := g)
      fun a b => SortNet.toInt_minsi a b).symm
  rw [hfold, hint _ k0.isLt.le]
  refine le_antisymm ?_ ?_
  · refine (Finset.fold_min_le _).2 (Or.inr ⟨lane k0, Finset.mem_univ _, ?_⟩)
    rw [if_pos (by rw [hv, hpk]), hi, hpk, hint _ k0.isLt.le]
  · refine (Finset.le_fold_min _).2 ⟨?_, fun l _ => ?_⟩
    · have := k0.isLt; omega
    · split
      · rename_i h
        rw [hi, hint _ (pick l).isLt.le]
        have := (hk (pick l)).2 (by rw [← hv, h])
        exact_mod_cast this
      · rw [hint _ le_rfl]
        exact_mod_cast k0.isLt.le

/-! ### One left fold over pairs -/

/-- One step of the fold that keeps the lesser value, and of two equal values the lesser index. -/
def keep (a b : EReal × ℕ) : EReal × ℕ :=
  (if a.1 < b.1 then a.1 else b.1, if a.1 < b.1 ∨ (a.1 = b.1 ∧ a.2 < b.2) then a.2 else b.2)

/-- What such a fold over a list of the row's pairs ends at: one of the list's pairs, no later than any other. -/
theorem foldl_keep {N : ℕ} (f : Fin N → EReal) (L : List (Fin N)) :
    ∀ p : EReal × ℕ, let r := (L.map fun k => (f k, k.val)).foldl keep p
      (r = p ∨ ∃ k ∈ L, r = (f k, k.val)) ∧ (r.1 ≤ p.1 ∧ (p.1 ≤ r.1 → r.2 ≤ p.2)) ∧ ∀ k ∈ L, r.1 ≤ f k ∧ (f k ≤ r.1 → r.2 ≤ k.val) := by
  induction L with
  | nil => intro p; simp
  | cons x L ih =>
    intro p
    simp only [List.map_cons, List.foldl_cons]
    have hk : (keep p (f x, x.val) = p ∨ keep p (f x, x.val) = (f x, x.val))
        ∧ ((keep p (f x, x.val)).1 ≤ p.1 ∧ (p.1 ≤ (keep p (f x, x.val)).1 → (keep p (f x, x.val)).2 ≤ p.2))
        ∧ ((keep p (f x, x.val)).1 ≤ f x ∧ (f x ≤ (keep p (f x, x.val)).1 → (keep p (f x, x.val)).2 ≤ x.val)) := by
      obtain ⟨a, i⟩ := p
      unfold keep
      dsimp only
      rcases lt_trichotomy a (f x) with h | h | h
      · simp [h, h.le, h.not_ge]
      · subst h
        by_cases hi : i < x.val
        · simp [hi, hi.le]
        · simp [hi, not_lt.mp hi]
      · simp [h.not_gt, h.ne', h.le, h.not_ge]
    obtain ⟨h1, ⟨h2, h3⟩, h4, h5⟩ := hk
    obtain ⟨g1, ⟨g2, g3⟩, g4⟩ := ih (keep p (f x, x.val))
    refine ⟨?_, ⟨g2.trans h2, fun h => ?_⟩, ?_⟩
    · rcases g1 with g | ⟨k, hk, g⟩
      · rcases h1 with h | h
        · left; rw [g, h]
        · right; exact ⟨x, by simp, by rw [g, h]⟩
      · right; exact ⟨k, by simp [hk], g⟩
    · exact (g3 (h2.trans h)).trans (h3 (h.trans g2))
    · intro k hk
      rcases List.mem_cons.mp hk with rfl | hk
      · exact ⟨g2.trans h4, fun h => (g3 (h4.trans h)).trans (h5 (h.trans g2))⟩
      · exact g4 k hk

/-- A fold from (infinity, anything) over all of a row whose entries are below infinity ends at the first least index. -/
theorem foldl_keep_first {N : ℕ} (f : Fin N → EReal) (hf : ∀ k, f k < ⊤) (L : List (Fin N)) (hL : ∀ k, k ∈ L) (i : ℕ)
    (k0 : Fin N) (hk : IsFirst f k0) : (L.map fun k => (f k, k.val)).foldl keep (⊤, i) = (f k0, k0.val) := by
  obtain ⟨h1, -, h3⟩ := foldl_keep f L (⊤, i)
  obtain ⟨ha, hb⟩ := h3 k0 (hL k0)
  rcases h1 with h | ⟨k, -, h⟩
  · rw [h] at ha
    exact absurd (hf k0) (not_lt.mpr ha)
  · rw [h] at ha hb ⊢
    have hkk : k = k0 := le_antisymm (Fin.le_def.mpr (hb (hk k).1)) ((hk k).2 ha)
    rw [hkk]

end Cert.Least

end
-- ==== Proof.Block.lean ====
/- What one grid point computes from its three input blocks: a block of rows, the codebook of the group, and the
   codebook's squared norms. -/
module

public import proofs.«01_k».proof.Proof.Gen.KernelIdeal.Skeleton
public import proofs.«01_k».proof.Proof.Gen.KernelIdeal
public import Idealize.ShloMosaic.Lib.Pointwise
public import Idealize.ShloMosaic.Lib.Pipeline.ValueKit
public import proofs.«01_k».proof.Proof.Least

@[expose] public section

set_option maxRecDepth 16384

noncomputable section

namespace Cert.KernelIdeal.Block

open Idealize.ShloMosaic Cert.KernelIdeal Cert.KernelIdeal.Gen Facts

local instance : Facts := Cert.KernelIdeal.Gen.facts

variable (x0 : Vec Ideal S1x128x32 .f32) (x1 : Vec Ideal S1x8192x32 .f32) (x2 : Vec Ideal S1x1x8192 .f32)

/-- The distance the block holds for its row `r` and the codebook's entry `k`. -/
def dist (r : Fin 128) (k : Fin 8192) : EReal :=
  (∑ d : Fin 32, x0 (ix3 0 r d) * x0 (ix3 0 r d)) + x2 (ix3 0 0 k)
    - ∑ d : Fin 32, (x0 (ix3 0 r d) + x0 (ix3 0 r d)) * x1 (ix3 0 k d)

/-- The entry nearest to row `r`, the first of those equally near. -/
def code (r : Fin 128) : Fin 8192 := Least.first (dist x0 x1 x2 r)

/-- The lower half of the codebook, as the body loads it. -/
def wLo : Vec Ideal S1x4096x32 .f32 := View.ld x1 (Rect.unit ![0, 0, 0] ![1, 4096, 32] inb_S1x8192x32_S1x4096x32_0_0_0)
/-- The upper half. -/
def wHi : Vec Ideal S1x4096x32 .f32 := View.ld x1 (Rect.unit ![0, 4096, 0] ![1, 4096, 32] inb_S1x8192x32_S1x4096x32_0_4096_0)
/-- The squared norms of the lower half. -/
def sLo : Vec Ideal S1x1x4096 .f32 := View.ld x2 (Rect.unit ![0, 0, 0] ![1, 1, 4096] inb_S1x1x8192_S1x1x4096_0_0_0)
/-- The squared norms of the upper half. -/
def sHi : Vec Ideal S1x1x4096 .f32 := View.ld x2 (Rect.unit ![0, 0, 4096] ![1, 1, 4096] inb_S1x1x8192_S1x1x4096_0_0_4096)

/-- The indicator matrix the body computes from its blocks: row `r` marks the entry chosen for row `r`. -/
def oh : FVec Ideal S128x8192 .f32 :=
  k0_pay18 (k0_pay10 x0) (iota Kind.tc S1x4096 32 [1] iota_S1x4096_d1_w32) (k0_pay15 x0 (wLo x1) (sLo x2))
    (k0_pay16 x0 (wLo x1) (sLo x2)) (k0_pay17 x0 (wHi x1)) (sHi x2)

/-- The chosen entries, as the body computes them: the indicator matrix times the codebook. -/
def q : FVec Ideal S128x32 .f32 :=
  k0_pay20 (k0_pay9 x1) (k0_pay10 x0) (iota Kind.tc S1x4096 32 [1] iota_S1x4096_d1_w32) (k0_pay15 x0 (wLo x1) (sLo x2))
    (k0_pay16 x0 (wLo x1) (sLo x2)) (k0_pay17 x0 (wHi x1)) (sHi x2)

/-- An index of the lower half, among all. -/
def lo (l : Fin 4096) : Fin 8192 := ⟨l.val, by have := l.isLt; omega⟩
/-- An index of the upper half, among all. -/
def hi (l : Fin 4096) : Fin 8192 := ⟨l.val + 4096, by have := l.isLt; omega⟩
/-- The lane that an index falls in. -/
def lane (k : Fin 8192) : Fin 4096 := ⟨k.val % 4096, Nat.mod_lt _ (by omega)⟩

/-- Every word lies in the lower or in the upper half, at its lane. -/
theorem lo_or_hi (k : Fin 8192) : k = lo (lane k) ∨ k = hi (lane k) := by
  have := k.isLt
  by_cases h : k.val < 4096
  · left; apply Fin.ext; show k.val = k.val % 4096; omega
  · right; apply Fin.ext; show k.val = k.val % 4096 + 4096; omega

/-- The lower half of the codebook block, read. -/
theorem wLo_apply (l : Fin 4096) (d : Fin 32) : wLo x1 (ix3 0 l d) = x1 (ix3 0 (lo l) d) :=
  View.ld_unit_apply_of _ _ _ _ _ _ fun a => by fin_cases a <;> simp [ix3, lo]
/-- The upper half of the codebook block, read. -/
theorem wHi_apply (l : Fin 4096) (d : Fin 32) : wHi x1 (ix3 0 l d) = x1 (ix3 0 (hi l) d) :=
  View.ld_unit_apply_of _ _ _ _ _ _ fun a => by fin_cases a <;> simp [ix3, hi, add_comm]
/-- The lower half of the squared lengths, read. -/
theorem sLo_apply (l : Fin 4096) : sLo x2 (ix3 0 0 l) = x2 (ix3 0 0 (lo l)) :=
  View.ld_unit_apply_of _ _ _ _ _ _ fun a => by fin_cases a <;> simp [ix3, lo]
/-- The upper half of the squared lengths, read. -/
theorem sHi_apply (l : Fin 4096) : sHi x2 (ix3 0 0 l) = x2 (ix3 0 0 (hi l)) :=
  View.ld_unit_apply_of _ _ _ _ _ _ fun a => by fin_cases a <;> simp [ix3, hi, add_comm]

/-- The printed infinity. -/
theorem inf_bits : Ideal.ofBits FTy.f32 2139095040#32 = (⊤ : EReal) := by
  simp [Ideal.ofBits, Ideal.ieee]

/-- The distances of the lower half. -/
theorem pay13_apply (r : Fin 128) (l : Fin 4096) : k0_pay13 x0 (wLo x1) (sLo x2) (ix2 r l) = dist x0 x1 x2 r (lo l) := by
  pointwise [k0_pay13, k0_pay11, k0_pay10, k0_pay8]
  simp only [wLo_apply, sLo_apply]
  rfl

/-- The lane-wise least after the lower half. -/
theorem pay15_apply (r : Fin 128) (l : Fin 4096) (hf : ∀ k, dist x0 x1 x2 r k < ⊤) :
    k0_pay15 x0 (wLo x1) (sLo x2) (ix2 r l) = dist x0 x1 x2 r (lo l) := by
  pointwise [k0_pay15, k0_pay14, k0_pay12]
  rw [pay13_apply, inf_bits, if_pos (hf _)]

/-- Its indices after the lower half. -/
theorem pay16_apply (r : Fin 128) (l : Fin 4096) (hf : ∀ k, dist x0 x1 x2 r k < ⊤) :
    k0_pay16 x0 (wLo x1) (sLo x2) (ix2 r l) = BitVec.ofNat 32 (lo l).val := by
  pointwise [k0_pay16, k0_pay14, k0_pay12]
  rw [pay13_apply, inf_bits, if_pos (hf _)]
  simp [IntOp.addi, lo]

/-- The body's indicator matrix marks, in each row, the first nearest entry, when no distance is infinite. -/
theorem oh_apply (r : Fin 128) (k : Fin 8192) (hf : ∀ k, dist x0 x1 x2 r k < ⊤) :
    oh x0 x1 x2 (ix2 r k) = if k = code x0 x1 x2 r then 1 else 0 := by
  have hd : ∀ l : Fin 4096, k0_pay10 x0 (ix2 r 0) + sHi x2 (ix3 0 0 l) - k0_pay17 x0 (wHi x1) (ix2 r l) = dist x0 x1 x2 r (hi l) := by
    intro l
    pointwise [k0_pay17, k0_pay11, k0_pay10, k0_pay8]
    simp only [wHi_apply, sHi_apply]
    rfl
  unfold oh
  pointwise [k0_pay18]
  simp only [hd, inf_bits]
  rw [Least.lanes_first (N := 8192) (by norm_num) (dist x0 x1 x2 r) (code x0 x1 x2 r) (Least.first_spec _)
    (fun l => if dist x0 x1 x2 r (hi l) < k0_pay15 x0 (wLo x1) (sLo x2) (ix2 r l) then dist x0 x1 x2 r (hi l) else k0_pay15 x0 (wLo x1) (sLo x2) (ix2 r l))
    (fun l => if dist x0 x1 x2 r (hi l) < k0_pay15 x0 (wLo x1) (sLo x2) (ix2 r l) then
      IntOp.addi (BitVec.ofNat 32 l.val) 4096#32 else k0_pay16 x0 (wLo x1) (sLo x2) (ix2 r l))
    (fun l => if dist x0 x1 x2 r (hi l) < dist x0 x1 x2 r (lo l) then hi l else lo l) lane ?_ ?_ ?_]
  · have hc : (code x0 x1 x2 r).val < 8192 := (code x0 x1 x2 r).isLt
    have hk := k.isLt
    have : (BitVec.ofNat 32 k.val = BitVec.ofNat 32 (code x0 x1 x2 r).val) ↔ k = code x0 x1 x2 r := by
      rw [← BitVec.toNat_inj, BitVec.toNat_ofNat, BitVec.toNat_ofNat, Nat.mod_eq_of_lt (by omega), Nat.mod_eq_of_lt (by omega), Fin.ext_iff]
    by_cases h : k = code x0 x1 x2 r
    · rw [if_pos h, h]
      simp [IntOp.cmpi, FloatOps.sitofp]
    · rw [if_neg h]
      have hne : (BitVec.ofNat 32 k.val == BitVec.ofNat 32 (code x0 x1 x2 r).val) = false := by
        rw [beq_eq_false_iff_ne]; exact fun e => h (this.mp e)
      simp [IntOp.cmpi, FloatOps.sitofp, hne]
  · intro l
    rw [pay15_apply x0 x1 x2 r l hf]
    split <;> rfl
  · intro l
    rw [pay15_apply x0 x1 x2 r l hf, pay16_apply x0 x1 x2 r l hf]
    split
    · simp [IntOp.addi, hi, BitVec.ofNat_add]
    · rfl
  · intro k
    have hlt : lo (lane k) ≤ hi (lane k) := by simp [lo, hi, Fin.le_def]
    rcases lo_or_hi k with h | h
    · rw [← h]
      split
      · rename_i h'
        exact ⟨h'.le, fun h'' => absurd h' (not_lt.mpr h'')⟩
      · exact ⟨le_rfl, fun _ => le_rfl⟩
    · rw [← h]
      split
      · exact ⟨le_rfl, fun _ => le_rfl⟩
      · rename_i h'
        exact ⟨not_lt.mp h', fun _ => hlt.trans_eq h.symm⟩

/-- The chosen entries: the indicator matrix summed against the codebook. -/
theorem q_apply (r : Fin 128) (d : Fin 32) :
    q x0 x1 x2 (ix2 r d) = ∑ k : Fin 8192, oh x0 x1 x2 (ix2 r k) * x1 (ix3 0 k d) := by
  unfold q
  pointwise [k0_pay20, k0_pay9]
  rfl

end Cert.KernelIdeal.Block

end
-- ==== Proof.Points.lean ====
/- What the output blocks and the carried counts hold after each grid point, in terms of the point's input blocks and of
   what the point before left. -/
module

public import proofs.«01_k».proof.Proof.Gen.KernelIdeal.Frame
public import Idealize.ShloMosaic.Lib.Pipeline.ValueKit
public import Idealize.ShloMosaic.Lib.Pipeline.ReadBack
public import proofs.«01_k».proof.Proof.Block

@[expose] public section

set_option maxRecDepth 16384

noncomputable section

namespace Cert.KernelIdeal.Points

open Idealize.ShloMosaic Idealize.SL.Sem Idealize.ShloMosaic.Pipeline Cert.KernelIdeal Cert.KernelIdeal.Gen

variable (m : (ℓ : Loc nD τ sig) → Buf (Elt Ideal) ℓ) (c : Dev nD)

/-- The block of rows of point `t`. -/
abbrev bx (t : Fin cfg0.N) : Vec Ideal S1x128x32 .f32 := iblk m c 0 t
/-- The codebook of point `t`. -/
abbrev bw (t : Fin cfg0.N) : Vec Ideal S1x8192x32 .f32 := iblk m c 1 t
/-- The codebook's squared norms of point `t`. -/
abbrev bs (t : Fin cfg0.N) : Vec Ideal S1x1x8192 .f32 := iblk m c 2 t
/-- The indicator matrix of point `t`. -/
def poh (t : Fin cfg0.N) : FVec Ideal S128x8192 .f32 := Block.oh (bx m c t) (bw m c t) (bs m c t)
/-- The chosen entries of point `t`. -/
def pq (t : Fin cfg0.N) : FVec Ideal S128x32 .f32 := Block.q (bx m c t) (bw m c t) (bs m c t)

/-- Every point is of one of four kinds: the very first, the first of a later group, a last of its group, or another. -/
theorem kinds (t : Fin cfg0.N) :
    (t.val % 64 = 0 ∧ t.val % 16 = 0 ∧ ¬1 ≤ t.val % 16 ∧ ¬t.val % 16 = 15)
    ∨ (¬t.val % 64 = 0 ∧ ¬t.val % 16 = 0 ∧ 1 ≤ t.val % 16 ∧ ¬t.val % 16 = 15)
    ∨ (¬t.val % 64 = 0 ∧ ¬t.val % 16 = 0 ∧ 1 ≤ t.val % 16 ∧ t.val % 16 = 15)
    ∨ (¬t.val % 64 = 0 ∧ t.val % 16 = 0 ∧ ¬1 ≤ t.val % 16 ∧ ¬t.val % 16 = 15) := by
  omega

/-- The indicator block of point `t`. -/
theorem out3 (t : Fin cfg0.N) (r : Fin 128) (k : Fin 8192) :
    (outsAt0 m c t.val t.isLt).1 (ix3 0 r k) = poh m c t (ix2 r k) := by
  have h : k0_pay19 (k0_pay10 (bx m c t)) (iota Kind.tc S1x4096 32 [1] iota_S1x4096_d1_w32)
      (k0_pay15 (bx m c t) (Block.wLo (bw m c t)) (Block.sLo (bs m c t))) (k0_pay16 (bx m c t) (Block.wLo (bw m c t)) (Block.sLo (bs m c t)))
      (k0_pay17 (bx m c t) (Block.wHi (bw m c t))) (Block.sHi (bs m c t)) (ix3 0 r k) = poh m c t (ix2 r k) := by
    unfold k0_pay19 poh Block.oh
    pointwise
  rcases kinds t with ⟨h0, h1, h2, h3⟩ | ⟨h0, h1, h2, h3⟩ | ⟨h0, h1, h2, h3⟩ | ⟨h0, h1, h2, h3⟩
  · rw [outsAt0_A m c t h0 h1 h2 h3]; frame_out; exact h
  · rw [outsAt0_B m c t h0 h1 h2 h3]; frame_out; exact h
  · rw [outsAt0_C m c t h0 h1 h2 h3]; frame_out; exact h
  · rw [outsAt0_D m c t h0 h1 h2 h3]; frame_out; exact h

/-- The block of chosen entries of point `t`. -/
theorem out4 (t : Fin cfg0.N) (r : Fin 128) (d : Fin 32) :
    (outsAt0 m c t.val t.isLt).2.1 (ix3 0 r d) = pq m c t (ix2 r d) := by
  have h : k0_pay21 (k0_pay9 (bw m c t)) (k0_pay10 (bx m c t)) (iota Kind.tc S1x4096 32 [1] iota_S1x4096_d1_w32)
      (k0_pay15 (bx m c t) (Block.wLo (bw m c t)) (Block.sLo (bs m c t))) (k0_pay16 (bx m c t) (Block.wLo (bw m c t)) (Block.sLo (bs m c t)))
      (k0_pay17 (bx m c t) (Block.wHi (bw m c t))) (Block.sHi (bs m c t)) (ix3 0 r d) = pq m c t (ix2 r d) := by
    unfold k0_pay21 pq Block.q
    pointwise
  rcases kinds t with ⟨h0, h1, h2, h3⟩ | ⟨h0, h1, h2, h3⟩ | ⟨h0, h1, h2, h3⟩ | ⟨h0, h1, h2, h3⟩
  · rw [outsAt0_A m c t h0 h1 h2 h3]; frame_out; exact h
  · rw [outsAt0_B m c t h0 h1 h2 h3]; frame_out; exact h
  · rw [outsAt0_C m c t h0 h1 h2 h3]; frame_out; exact h
  · rw [outsAt0_D m c t h0 h1 h2 h3]; frame_out; exact h

/-- The straight-through block of point `t`. -/
theorem out5 (t : Fin cfg0.N) (r : Fin 128) (d : Fin 32) :
    (outsAt0 m c t.val t.isLt).2.2.1 (ix3 0 r d) = bx m c t (ix3 0 r d) + (pq m c t (ix2 r d) - bx m c t (ix3 0 r d)) := by
  have h : k0_pay22 (k0_pay8 (bx m c t)) (k0_pay9 (bw m c t)) (k0_pay10 (bx m c t)) (iota Kind.tc S1x4096 32 [1] iota_S1x4096_d1_w32)
      (k0_pay15 (bx m c t) (Block.wLo (bw m c t)) (Block.sLo (bs m c t))) (k0_pay16 (bx m c t) (Block.wLo (bw m c t)) (Block.sLo (bs m c t)))
      (k0_pay17 (bx m c t) (Block.wHi (bw m c t))) (Block.sHi (bs m c t)) (ix3 0 r d)
      = bx m c t (ix3 0 r d) + (pq m c t (ix2 r d) - bx m c t (ix3 0 r d)) := by
    unfold pq Block.q
    pointwise [k0_pay22, k0_pay8]
  rcases kinds t with ⟨h0, h1, h2, h3⟩ | ⟨h0, h1, h2, h3⟩ | ⟨h0, h1, h2, h3⟩ | ⟨h0, h1, h2, h3⟩
  · rw [outsAt0_A m c t h0 h1 h2 h3]; frame_out; exact h
  · rw [outsAt0_B m c t h0 h1 h2 h3]; frame_out; exact h
  · rw [outsAt0_C m c t h0 h1 h2 h3]; frame_out; exact h
  · rw [outsAt0_D m c t h0 h1 h2 h3]; frame_out; exact h

/-- The squared differences of point `t`, summed. -/
def ploss (t : Fin cfg0.N) : EReal :=
  ∑ r : Fin 128, ∑ d : Fin 32, (pq m c t (ix2 r d) - bx m c t (ix3 0 r d)) * (pq m c t (ix2 r d) - bx m c t (ix3 0 r d))

/-- The running loss after a step: what it was, plus the squared error of the rows of the step. -/
theorem pay3_apply (t : Fin cfg0.N) (v : Vec Ideal S1x1 .f32) (y : S1x1.Idx) :
    k0_pay3 (k0_pay8 (bx m c t)) (pq m c t) v y = v y + ploss m c t := by
  pointwise [k0_pay3, k0_pay8]
  rfl

/-- The running loss after the first point. -/
theorem out6_first (t : Fin cfg0.N) (h : t.val = 0) (y : S1x1.Idx) :
    (outsAt0 m c t.val t.isLt).2.2.2.1 y = ploss m c t := by
  rw [outsAt0_A m c t (by omega) (by omega) (by omega) (by omega)]
  frame_out
  refine (pay3_apply m c t _ y).trans ?_
  pointwise [k0_pay1]

/-- The running loss after any other point. -/
theorem out6_step (t : Fin cfg0.N) (h : t.val ≠ 0) (y : S1x1.Idx) :
    (outsAt0 m c t.val t.isLt).2.2.2.1 y = (outsAt0 m c (t.val - 1) (by have := t.isLt; omega)).2.2.2.1 y + ploss m c t := by
  have hN : t.val < 64 := lt_of_lt_of_eq t.isLt N_0
  rcases kinds t with ⟨h0, h1, h2, h3⟩ | ⟨h0, h1, h2, h3⟩ | ⟨h0, h1, h2, h3⟩ | ⟨h0, h1, h2, h3⟩
  · omega
  · rw [outsAt0_B m c t h0 h1 h2 h3]; frame_out; exact pay3_apply m c t _ y
  · rw [outsAt0_C m c t h0 h1 h2 h3]; frame_out; exact pay3_apply m c t _ y
  · rw [outsAt0_D m c t h0 h1 h2 h3]; frame_out; exact pay3_apply m c t _ y

/-- How many rows of point `t` chose entry `k`. -/
def pcount (t : Fin cfg0.N) (k : Fin 8192) : EReal := ∑ r : Fin 128, poh m c t (ix2 r k)

/-- The running counts after a step: what they were, plus the indicators of the rows of the step. -/
theorem pay6_apply (t : Fin cfg0.N) (v : Vec Ideal S1x8192 .f32) (k : Fin 8192) :
    k0_pay6 (poh m c t) v (ix2 0 k) = v (ix2 0 k) + pcount m c t k := by
  pointwise [k0_pay6, k0_pay4]
  rfl

/-- The carried counts after the first point of a group. -/
theorem counts_first (t : Fin cfg0.N) (h : t.val % 16 = 0) (k : Fin 8192) :
    (outsAt0 m c t.val t.isLt).2.2.2.2.2 (ix2 0 k) = pcount m c t k := by
  have e : k0_pay5 (poh m c t) (ix2 0 k) = pcount m c t k := by
    pointwise [k0_pay5, k0_pay4]
    rfl
  rcases kinds t with ⟨h0, h1, h2, h3⟩ | ⟨h0, h1, h2, h3⟩ | ⟨h0, h1, h2, h3⟩ | ⟨h0, h1, h2, h3⟩
  · rw [outsAt0_A m c t h0 h1 h2 h3]; frame_out; exact e
  · omega
  · omega
  · rw [outsAt0_D m c t h0 h1 h2 h3]; frame_out; exact e

/-- The carried counts after any other point of a group. -/
theorem counts_step (t : Fin cfg0.N) (h : t.val % 16 ≠ 0) (k : Fin 8192) :
    (outsAt0 m c t.val t.isLt).2.2.2.2.2 (ix2 0 k)
      = (outsAt0 m c (t.val - 1) (by have := t.isLt; omega)).2.2.2.2.2 (ix2 0 k) + pcount m c t k := by
  rcases kinds t with ⟨h0, h1, h2, h3⟩ | ⟨h0, h1, h2, h3⟩ | ⟨h0, h1, h2, h3⟩ | ⟨h0, h1, h2, h3⟩
  · omega
  · rw [outsAt0_B m c t h0 h1 h2 h3]; frame_out; rw [read_unread_whole]; exact pay6_apply m c t _ k
  · rw [outsAt0_C m c t h0 h1 h2 h3]; frame_out; rw [read_unread_whole]; exact pay6_apply m c t _ k
  · omega

/-- The share of entry `k` among 2048 rows, given its count. -/
def share (n : EReal) : EReal := n * Ideal.ofBits FTy.f32 0x3A000000#32
/-- One entry's term of the entropy. -/
def term (n : EReal) : EReal := share n * Ideal.log (share n + Ideal.ofBits FTy.f32 0x2EDBE6FF#32)
/-- The perplexity of a row of counts. -/
def perp (n : Fin 8192 → EReal) : EReal := Ideal.exp (0 - ∑ k, term (n k))

/-- The running perplexity after a codebook: what it was, plus the perplexity of the counts. -/
theorem pay7_apply (n : Vec Ideal S1x8192 .f32) (v : Vec Ideal S1x1 .f32) (y : S1x1.Idx) :
    k0_pay7 n v y = v y + perp fun k => n (ix2 0 k) := by
  pointwise [k0_pay7]
  simp only [Fin.sum_univ_one]
  rfl

/-- The running perplexity after the first point. -/
theorem out7_first (t : Fin cfg0.N) (h : t.val = 0) (y : S1x1.Idx) :
    (outsAt0 m c t.val t.isLt).2.2.2.2.1 y = 0 := by
  rw [outsAt0_A m c t (by omega) (by omega) (by omega) (by omega)]
  frame_out
  pointwise [k0_pay2]

/-- The running perplexity after a point that ends no group. -/
theorem out7_idle (t : Fin cfg0.N) (h : t.val ≠ 0) (h' : t.val % 16 ≠ 15) (y : S1x1.Idx) :
    (outsAt0 m c t.val t.isLt).2.2.2.2.1 y = (outsAt0 m c (t.val - 1) (by have := t.isLt; omega)).2.2.2.2.1 y := by
  have hN : t.val < 64 := lt_of_lt_of_eq t.isLt N_0
  rcases kinds t with ⟨h0, h1, h2, h3⟩ | ⟨h0, h1, h2, h3⟩ | ⟨h0, h1, h2, h3⟩ | ⟨h0, h1, h2, h3⟩
  · omega
  · rw [outsAt0_B m c t h0 h1 h2 h3]; rfl
  · omega
  · rw [outsAt0_D m c t h0 h1 h2 h3]; rfl

/-- The running perplexity after the last point of a group: the perplexity of the group's counts joins it. -/
theorem out7_last (t : Fin cfg0.N) (h : t.val % 16 = 15) (y : S1x1.Idx) :
    (outsAt0 m c t.val t.isLt).2.2.2.2.1 y
      = (outsAt0 m c (t.val - 1) (by have := t.isLt; omega)).2.2.2.2.1 y
        + perp fun k => (outsAt0 m c t.val t.isLt).2.2.2.2.2 (ix2 0 k) := by
  have hN : t.val < 64 := lt_of_lt_of_eq t.isLt N_0
  simp only [counts_step m c t (by omega)]
  rw [outsAt0_C m c t (by omega) (by omega) (by omega) h]
  frame_out
  rw [read_unread_whole]
  refine (pay7_apply _ _ y).trans ?_
  congr 2
  funext k
  exact pay6_apply m c t _ k

end Cert.KernelIdeal.Points

end
-- ==== Proof.Spec.lean ====
/- The quantizer as mathematics

Four codebooks of 8192 words of 32 numbers quantize 2048 rows of four vectors. `X g r d` is coordinate `d` of row `r`'s
vector for codebook `g`; `W g k d` is coordinate `d` of word `k` of codebook `g`. Nothing here mentions a program. -/
module

public import Idealize.ShloMosaic.Lib.Pointwise
public import proofs.«01_k».proof.Proof.Least

@[expose] public section

set_option maxRecDepth 16384

noncomputable section

namespace Cert.Spec

/-- The rows, split by codebook. -/
abbrev Rows := Fin 4 → Fin 2048 → Fin 32 → EReal
/-- The codebooks. -/
abbrev Books := Fin 4 → Fin 8192 → Fin 32 → EReal

/-- The squared distance from row `r` to word `k`, with the doubling inside the product. -/
def dist (X : Rows) (W : Books) (g : Fin 4) (r : Fin 2048) (k : Fin 8192) : EReal :=
  (∑ d, X g r d * X g r d) + (∑ d, W g k d * W g k d) - ∑ d, (X g r d + X g r d) * W g k d

/-- The first word at the least distance from row `r`. -/
def code (X : Rows) (W : Books) (g : Fin 4) (r : Fin 2048) : Fin 8192 := Least.first (dist X W g r)

/-- One at the chosen word, zero elsewhere. -/
def hot (X : Rows) (W : Books) (g : Fin 4) (r : Fin 2048) (k : Fin 8192) : EReal := if k = code X W g r then 1 else 0

/-- The chosen word, as the indicator times the codebook. -/
def word (X : Rows) (W : Books) (g : Fin 4) (r : Fin 2048) (d : Fin 32) : EReal := ∑ k, hot X W g r k * W g k d

/-- The squared error of codebook `g`, summed over rows and coordinates. -/
def sqErr (X : Rows) (W : Books) (g : Fin 4) : EReal :=
  ∑ r, ∑ d, (word X W g r d - X g r d) * (word X W g r d - X g r d)

/-- How many rows chose word `k` of codebook `g`. -/
def count (X : Rows) (W : Books) (g : Fin 4) (k : Fin 8192) : EReal := ∑ r, hot X W g r k

/-- A real number, as an extended one. -/
def Real (a : EReal) : Prop := ∃ x : ℝ, a = x

/-- Every number of the rows and the codebooks is a real one. -/
structure Finite (X : Rows) (W : Books) : Prop where
  rows : ∀ g r d, Real (X g r d)
  books : ∀ g k d, Real (W g k d)

/-- A sum of two real numbers is real. -/
theorem Real.add {a b : EReal} (ha : Real a) (hb : Real b) : Real (a + b) := by
  obtain ⟨x, rfl⟩ := ha
  obtain ⟨y, rfl⟩ := hb
  exact ⟨x + y, (EReal.coe_add x y).symm⟩

/-- A difference of two real numbers is real. -/
theorem Real.sub {a b : EReal} (ha : Real a) (hb : Real b) : Real (a - b) := by
  obtain ⟨x, rfl⟩ := ha
  obtain ⟨y, rfl⟩ := hb
  exact ⟨x - y, (EReal.coe_sub x y).symm⟩

/-- A product of two real numbers is real. -/
theorem Real.mul {a b : EReal} (ha : Real a) (hb : Real b) : Real (a * b) := by
  obtain ⟨x, rfl⟩ := ha
  obtain ⟨y, rfl⟩ := hb
  exact ⟨x * y, (EReal.coe_mul x y).symm⟩

/-- A finite sum of real numbers is real. -/
theorem Real.sum {ι : Type} [Fintype ι] {f : ι → EReal} (h : ∀ i, Real (f i)) : Real (∑ i, f i) :=
  Finset.sum_induction f Real (fun _ _ => Real.add) ⟨0, rfl⟩ fun i _ => h i

/-- A real number is below infinity. -/
theorem Real.lt_top {a : EReal} (ha : Real a) : a < ⊤ := by
  obtain ⟨x, rfl⟩ := ha
  exact EReal.coe_lt_top x

/-- Distances between real vectors are real. -/
theorem dist_real {X : Rows} {W : Books} (h : Finite X W) (g : Fin 4) (r : Fin 2048) (k : Fin 8192) :
    Real (dist X W g r k) :=
  .sub (.add (.sum fun d => .mul (h.rows g r d) (h.rows g r d)) (.sum fun d => .mul (h.books g k d) (h.books g k d)))
    (.sum fun d => .mul (.add (h.rows g r d) (h.rows g r d)) (h.books g k d))

/-- The indicators, zero or one, are real. -/
theorem hot_real (X : Rows) (W : Books) (g : Fin 4) (r : Fin 2048) (k : Fin 8192) : Real (hot X W g r k) := by
  unfold hot
  split
  · exact ⟨1, rfl⟩
  · exact ⟨0, rfl⟩

/-- Where rows and codebooks are real, so are the chosen words. -/
theorem word_real {X : Rows} {W : Books} (h : Finite X W) (g : Fin 4) (r : Fin 2048) (d : Fin 32) :
    Real (word X W g r d) :=
  .sum fun k => .mul (hot_real X W g r k) (h.books g k d)

/-- Where rows and codebooks are real, so is the squared error. -/
theorem sqErr_real {X : Rows} {W : Books} (h : Finite X W) (g : Fin 4) : Real (sqErr X W g) :=
  .sum fun r => .sum fun d => .mul (.sub (word_real h g r d) (h.rows g r d)) (.sub (word_real h g r d) (h.rows g r d))

end Cert.Spec

end
-- ==== Proof.Inputs.lean ====
/- The blocks a grid point reads, in terms of the arguments

Point `t` works on codebook `t / 16` and on rows `128 * (t % 16)` to `128 * (t % 16) + 127`. -/
module

public import Idealize.ShloMosaic.Lib.Claim
public import proofs.«01_k».proof.Proof.Points
public import proofs.«01_k».proof.Proof.Spec

@[expose] public section

set_option maxRecDepth 16384

noncomputable section

namespace Cert.KernelIdeal.Points

open Idealize.ShloMosaic Idealize.ShloMosaic.TcCoe Idealize.SL.Sem
open Cert.KernelIdeal.Gen

local instance : Facts := Cert.KernelIdeal.Gen.facts

variable (m : (ℓ : Loc nD τ sig) → Buf (Elt Ideal) ℓ) (c : Dev nD)

/-- The rows the kernel is given. -/
def X : Spec.Rows := fun g r d => (m ((c : Thread nD τ).loc main_arg0) : S2048x4x32.Idx → EReal) (ix3 r g d)
/-- The codebooks the kernel is given. -/
def W : Spec.Books := fun g k d => (m ((c : Thread nD τ).loc main_arg1) : S4x8192x32.Idx → EReal) (ix3 g k d)

/-- The codebook of point `t`. -/
def grp (t : Fin cfg0.N) : Fin 4 := ⟨t.val / 16, by have := Nat.lt_of_lt_of_eq t.isLt N_0; omega⟩
/-- The row of the array that row `r` of point `t`'s block is. -/
def row (t : Fin cfg0.N) (r : Fin 128) : Fin 2048 := ⟨128 * (t.val % 16) + r.val, by have := r.isLt; omega⟩

/-- Where the blocks of the three inputs and the three large outputs lie. -/
theorem places : ∀ t : Fin cfg0.N, win0_0.index t = ![t.val / 16, t.val % 16, 0] ∧ win0_1.index t = ![t.val / 16, 0, 0]
    ∧ win0_2.index t = ![t.val / 16, 0, 0] ∧ win0_3.index t = ![t.val / 16, t.val % 16, 0]
    ∧ win0_4.index t = ![t.val / 16, t.val % 16, 0] ∧ win0_5.index t = ![t.val / 16, t.val % 16, 0] :=
  (by decide +kernel : ∀ t : Fin grid0.N, _)

/-- The rows, split by codebook, as the region is entered. -/
theorem entry_rows (g : Fin 4) (r : Fin 2048) (d : Fin 32) :
    (V m c main_v0 : S4x2048x32.Idx → EReal) (ix3 g r d) = X m c g r d := by
  unfold X
  simp only [V, V0, hostOps0, List.flatten_cons, List.flatten_nil, List.append_nil]
  after_results
  pointwise

/-- The squared lengths of the words, as the region is entered. -/
theorem entry_lengths (g : Fin 4) (k : Fin 8192) :
    (V m c main_v3 : S4x1x8192.Idx → EReal) (ix3 g 0 k) = ∑ d, W m c g k d * W m c g k d := by
  unfold W
  simp only [V, V0, hostOps0, List.flatten_cons, List.flatten_nil, List.append_nil]
  after_results
  pointwise

/-- The block of rows. -/
theorem bx_apply (t : Fin cfg0.N) (r : Fin 128) (d : Fin 32) : bx m c t (ix3 0 r d) = X m c (grp t) (row t r) d := by
  rw [← entry_rows]
  unfold bx
  blk_ext [iblk, places t, grp, row]

/-- The block of words. -/
theorem bw_apply (t : Fin cfg0.N) (k : Fin 8192) (d : Fin 32) : bw m c t (ix3 0 k d) = W m c (grp t) k d := by
  unfold bw W
  blk_ext [iblk, V_main_arg1, places t, grp]

/-- The block of squared lengths of the words. -/
theorem bs_apply (t : Fin cfg0.N) (k : Fin 8192) : bs m c t (ix3 0 0 k) = ∑ d, W m c (grp t) k d * W m c (grp t) k d := by
  rw [← entry_lengths]
  unfold bs
  blk_ext [iblk, places t, grp]

end Cert.KernelIdeal.Points

end
-- ==== Proof.Values.lean ====
/- What each grid point leaves, as parts of the quantizer, and what the two running totals hold at the end of the grid. -/
module

public import proofs.«01_k».proof.Proof.Inputs

@[expose] public section

set_option maxRecDepth 16384

noncomputable section

namespace Cert.KernelIdeal.Points

open Idealize.ShloMosaic Idealize.ShloMosaic.TcCoe Idealize.SL.Sem
open Cert.KernelIdeal.Gen

variable (m : (ℓ : Loc nD τ sig) → Buf (Elt Ideal) ℓ) (c : Dev nD)

/-- A point's distances are the quantizer's. -/
theorem dist_apply (t : Fin cfg0.N) (r : Fin 128) (k : Fin 8192) :
    Block.dist (bx m c t) (bw m c t) (bs m c t) r k = Spec.dist (X m c) (W m c) (grp t) (row t r) k := by
  simp only [Block.dist, Spec.dist, bx_apply, bw_apply, bs_apply]

/-- A point's choices are the quantizer's. -/
theorem code_apply (t : Fin cfg0.N) (r : Fin 128) :
    Block.code (bx m c t) (bw m c t) (bs m c t) r = Spec.code (X m c) (W m c) (grp t) (row t r) :=
  congrArg Least.first (funext fun k => dist_apply m c t r k)

variable (h : Spec.Finite (X m c) (W m c))
include h

/-- A point's indicator matrix is the quantizer's. -/
theorem poh_apply (t : Fin cfg0.N) (r : Fin 128) (k : Fin 8192) :
    poh m c t (ix2 r k) = Spec.hot (X m c) (W m c) (grp t) (row t r) k := by
  unfold poh Spec.hot
  rw [Block.oh_apply _ _ _ r k (fun k => by rw [dist_apply]; exact (Spec.dist_real h _ _ k).lt_top), code_apply]

/-- A point's chosen words are the quantizer's. -/
theorem pq_apply (t : Fin cfg0.N) (r : Fin 128) (d : Fin 32) :
    pq m c t (ix2 r d) = Spec.word (X m c) (W m c) (grp t) (row t r) d := by
  unfold pq Spec.word
  rw [Block.q_apply]
  exact Finset.sum_congr rfl fun k _ => congrArg₂ (· * ·) (poh_apply m c h t r k) (bw_apply m c t k d)

/-- The squared error of a point's rows. -/
theorem ploss_apply (t : Fin cfg0.N) :
    ploss m c t = ∑ r : Fin 128, ∑ d, (Spec.word (X m c) (W m c) (grp t) (row t r) d - X m c (grp t) (row t r) d)
      * (Spec.word (X m c) (W m c) (grp t) (row t r) d - X m c (grp t) (row t r) d) := by
  simp only [ploss, pq_apply m c h, bx_apply]

/-- How many of a point's rows chose each word. -/
theorem pcount_apply (t : Fin cfg0.N) (k : Fin 8192) :
    pcount m c t k = ∑ r : Fin 128, Spec.hot (X m c) (W m c) (grp t) (row t r) k := by
  simp only [pcount, poh_apply m c h]

/-- The running loss at the end is the squared error of every codebook. -/
theorem out6_end (t : Fin cfg0.N) (ht : t.val + 1 = cfg0.N) (y : S1x1.Idx) :
    (outsAt0 m c t.val t.isLt).2.2.2.1 y = ∑ g, Spec.sqErr (X m c) (W m c) g := by
  have hN : cfg0.N = 64 := N_0
  refine (Pipeline.eq_sum_fin_of_reset_step_apply_last (fun n h => (outsAt0 m c n h).2.2.2.1) 64 (fun _ => 0)
    (fun t _ => ploss m c t)
    (fun t h y => (out6_first m c t (by have := t.isLt; omega) y).trans (zero_add _).symm)
    (fun t h y => out6_step m c t (by omega) y) (by omega) t ht y).trans ?_
  rw [zero_add]
  simp only [ploss_apply m c h]
  refine Fin.sum_points_lanes_congr (A := 4) (L := 2048) 16 (g := fun g r => ∑ d, (Spec.word (X m c) (W m c) g r d - X m c g r d)
      * (Spec.word (X m c) (W m c) g r d - X m c g r d)) fun t r ha hl => ?_
  rw [show row t r = ⟨t.val % 16 * 128 + r.val, hl⟩ from Fin.ext (by simp only [row]; omega)]
  rfl

/-- The counts at the last point of a codebook's run. -/
theorem counts_end (t : Fin cfg0.N) (ht : t.val % 16 = 15) (k : Fin 8192) :
    (outsAt0 m c t.val t.isLt).2.2.2.2.2 (ix2 0 k) = Spec.count (X m c) (W m c) (grp t) k := by
  have hN : cfg0.N = 64 := N_0
  have e := Pipeline.eq_sum_fin_of_reset_step_of_flush (fun n h => (outsAt0 m c n h).2.2.2.2.2 (ix2 0 k)) 16 0
    (fun t => pcount m c t k)
    (fun t h => (counts_first m c t h k).trans (zero_add _).symm)
    (fun t h => counts_step m c t h k) t ht
  refine e.trans ?_
  rw [zero_add]
  simp only [pcount_apply m c h]
  refine Fin.sum_mul_add_congr (f := fun r => Spec.hot (X m c) (W m c) (grp t) r k) fun s r hl => ?_
  have hs : s.val < 16 := s.isLt
  congr 1
  · exact Fin.ext (by simp only [grp]; omega)
  · exact Fin.ext (by simp only [row]; omega)

/-- The running perplexity at the end is the sum over the codebooks. -/
theorem out7_end (t : Fin cfg0.N) (ht : t.val + 1 = cfg0.N) (y : S1x1.Idx) :
    (outsAt0 m c t.val t.isLt).2.2.2.2.1 y = ∑ g, perp (Spec.count (X m c) (W m c) g) := by
  have hN : cfg0.N = 64 := N_0
  refine (Pipeline.eq_sum_fin_of_reset_step_apply_last (fun n h => (outsAt0 m c n h).2.2.2.2.1) 64 (fun _ => 0)
    (fun t _ => if t.val % 16 = 15 then perp (Spec.count (X m c) (W m c) (grp t)) else 0)
    (fun t h0 y => ?_) (fun t h0 y => ?_) (by omega) t ht y).trans ?_
  · rw [if_neg (by omega), add_zero]
    exact out7_first m c t (by have := t.isLt; omega) y
  · split
    · next e =>
      refine (out7_last m c t e y).trans (congrArg (_ + perp ·) (funext fun k => ?_))
      exact counts_end m c h t e k
    · next e => exact (out7_idle m c t (by omega) e y).trans (add_zero _).symm
  rw [zero_add]
  refine (Fin.sum_divmod_congr (A := 4) (S := 16) (f := fun g b => if b.val = 15 then perp (Spec.count (X m c) (W m c) g) else 0)
    fun t ha hl => rfl).trans (Finset.sum_congr rfl fun g _ => ?_)
  exact (Finset.sum_eq_single (15 : Fin 16) (fun b _ hb => if_neg fun e => hb (Fin.ext e)) fun hb => absurd (Finset.mem_univ _) hb).trans
    (if_pos rfl)

end Cert.KernelIdeal.Points

end
-- ==== Proof.Arrays.lean ====
/- What the five result arrays of the kernel hold after the grid, element by element. -/
module

public import proofs.«01_k».proof.Proof.Values

@[expose] public section

set_option maxRecDepth 16384

noncomputable section

namespace Cert.KernelIdeal.Points

open Idealize.ShloMosaic Idealize.ShloMosaic.TcCoe Idealize.SL.Sem Idealize.ShloMosaic.Pipeline
open Cert.KernelIdeal.Gen

/-- The last point of the grid. -/
def lastPt : Fin cfg0.N := ⟨63, by decide⟩

/-- Where the elements of output 3's block at point `t` lie in its array. -/
theorem place3 (t : Fin cfg0.N) (r : Fin 128) (k : Fin 8192) :
    (win0_3.blk t).view.emb (ix3 0 r k) = ix3 (grp t) (row t r) k := by
  blk_ext [places t, grp, row]

/-- Where the elements of output 4's block at point `t` lie in its array. -/
theorem place4 (t : Fin cfg0.N) (r : Fin 128) (k : Fin 32) :
    (win0_4.blk t).view.emb (ix3 0 r k) = ix3 (grp t) (row t r) k := by
  blk_ext [places t, grp, row]

/-- Where the elements of output 5's block at point `t` lie in its array. -/
theorem place5 (t : Fin cfg0.N) (r : Fin 128) (k : Fin 32) :
    (win0_5.blk t).view.emb (ix3 0 r k) = ix3 (grp t) (row t r) k := by
  blk_ext [places t, grp, row]

variable (m : (ℓ : Loc nD τ sig) → Buf (Elt Ideal) ℓ) (c : Dev nD) (h : Spec.Finite (X m c) (W m c))
include h

/-- The indicator array. -/
theorem arr3 : (dats m 0 c).arrAt 3 cfg0.N = fun i : S4x2048x8192.Idx =>
    Spec.hot (X m c) (W m c) (i 0) (i 1) (i 2) := by
  refine (dats m 0 c).arrAt_eq_of_covers 3 _ (by decide +kernel) fun t hf y => ?_
  blk_simp
  rw [after0_3]
  obtain ⟨r, k, rfl⟩ : ∃ (r : Fin 128) (k : Fin 8192), y = ix3 0 r k := by
    idx_vars y
    exact ⟨y1, y2, congrArg (ix3 · y1 y2) (Subsingleton.elim y0 0)⟩
  refine ((out3 m c t r k).trans (poh_apply m c h t r k)).trans ?_
  rw [place3]
  rfl

/-- The array of chosen words. -/
theorem arr4 : (dats m 0 c).arrAt 4 cfg0.N = fun i : S4x2048x32.Idx =>
    Spec.word (X m c) (W m c) (i 0) (i 1) (i 2) := by
  refine (dats m 0 c).arrAt_eq_of_covers 4 _ (by decide +kernel) fun t hf y => ?_
  blk_simp
  rw [after0_4]
  obtain ⟨r, k, rfl⟩ : ∃ (r : Fin 128) (k : Fin 32), y = ix3 0 r k := by
    idx_vars y
    exact ⟨y1, y2, congrArg (ix3 · y1 y2) (Subsingleton.elim y0 0)⟩
  refine ((out4 m c t r k).trans (pq_apply m c h t r k)).trans ?_
  rw [place4]
  rfl

/-- The array of straight-through words. -/
theorem arr5 : (dats m 0 c).arrAt 5 cfg0.N = fun i : S4x2048x32.Idx =>
    X m c (i 0) (i 1) (i 2) + (Spec.word (X m c) (W m c) (i 0) (i 1) (i 2) - X m c (i 0) (i 1) (i 2)) := by
  refine (dats m 0 c).arrAt_eq_of_covers 5 _ (by decide +kernel) fun t hf y => ?_
  blk_simp
  rw [after0_5]
  obtain ⟨r, k, rfl⟩ : ∃ (r : Fin 128) (k : Fin 32), y = ix3 0 r k := by
    idx_vars y
    exact ⟨y1, y2, congrArg (ix3 · y1 y2) (Subsingleton.elim y0 0)⟩
  refine ((out5 m c t r k).trans (by rw [pq_apply m c h, bx_apply])).trans ?_
  rw [place5]
  rfl

/-- The loss total. -/
theorem arr6 : (dats m 0 c).arrAt 6 cfg0.N = fun _ : S1x1.Idx => ∑ g, Spec.sqErr (X m c) (W m c) g := by
  refine (dats m 0 c).arrAt_eq_of_after_last 6 lastPt (by decide +kernel) _ fun j => ?_
  blk_simp
  rw [after0_6]
  exact out6_end m c h _ (by decide) j

/-- The perplexity total. -/
theorem arr7 : (dats m 0 c).arrAt 7 cfg0.N = fun _ : S1x1.Idx => ∑ g, perp (Spec.count (X m c) (W m c) g) := by
  refine (dats m 0 c).arrAt_eq_of_after_last 7 lastPt (by decide +kernel) _ fun j => ?_
  blk_simp
  rw [after0_7]
  exact out7_end m c h _ (by decide) j

end Cert.KernelIdeal.Points

end
-- ==== Proof.Run.lean ====
/- What the kernel's program leaves in its five results. -/
module

public import proofs.«01_k».proof.Proof.Arrays

@[expose] public section

set_option maxRecDepth 16384

noncomputable section

namespace Cert.KernelIdeal.Points

open Idealize.ShloMosaic Idealize.ShloMosaic.TcCoe Idealize.SL.Sem Idealize.ShloMosaic.Pipeline
open Cert.KernelIdeal.Gen

variable (m : (ℓ : Loc nD τ sig) → Buf (Elt Ideal) ℓ) (g : Dev nD → PrngReg)

/-- The windows' arrays are distinct. -/
theorem arr_inj : Function.Injective (arrRef (cfgs 0).spec) := by decide

/-- The kernel's program ends with the five results of the quantizer and its arguments as they were. -/
theorem run (h : ∀ c, Spec.Finite (X m c) (W m c)) :
    θ_run (defs (F := Ideal)) (onTc (τ := τ) (main (F := Ideal))) ⟨m, fun _ => 0, g⟩ (fun r => ∀ c : Dev nD,
      r.2.mem ((c.tc : Thread nD τ).loc main_v7) = (fun _ : S_.Idx => Ideal.div ((∑ g, Spec.sqErr (X m c) (W m c) g)
          * Ideal.ofBits FTy.f32 0x37A00000#32) (Ideal.ofBits FTy.f32 0x40800000#32))
      ∧ r.2.mem ((c.tc : Thread nD τ).loc main_v10) = (fun i : S2048x4x32.Idx =>
          X m c (i 1) (i 0) (i 2) + (Spec.word (X m c) (W m c) (i 1) (i 0) (i 2) - X m c (i 1) (i 0) (i 2)))
      ∧ r.2.mem ((c.tc : Thread nD τ).loc main_v9) = (fun _ : S_.Idx => Ideal.div (∑ g, perp (Spec.count (X m c) (W m c) g))
          (Ideal.ofBits FTy.f32 0x40800000#32))
      ∧ r.2.mem ((c.tc : Thread nD τ).loc main_v4_1) = (fun i : S4x2048x32.Idx => Spec.word (X m c) (W m c) (i 0) (i 1) (i 2))
      ∧ r.2.mem ((c.tc : Thread nD τ).loc main_v4_0) = (fun i : S4x2048x8192.Idx => Spec.hot (X m c) (W m c) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from Gen.run_main m g
  · unfold afterTail₀
    simp only [hostOps1, List.flatten_cons, List.flatten_nil, List.append_nil]
    after_results
    have e := (withArrays_arr (cfgs 0).spec arr_inj c (V0 m c) (fun w => (dats m 0 c).arrAt w (cfgs 0).N) 6).trans (arr6 m c (h c))
    rw [show withArrays (cfgs 0).spec c (V0 m c) (fun w => (dats m 0 c).arrAt w (cfgs 0).N) (Proc.tc.devRef main_v4_3) = _ from e]
    funext i
    rfl
  · unfold afterTail₀
    simp only [hostOps1, List.flatten_cons, List.flatten_nil, List.append_nil]
    after_results
    have e := (withArrays_arr (cfgs 0).spec arr_inj c (V0 m c) (fun w => (dats m 0 c).arrAt w (cfgs 0).N) 5).trans (arr5 m c (h c))
    rw [show withArrays (cfgs 0).spec c (V0 m c) (fun w => (dats m 0 c).arrAt w (cfgs 0).N) (Proc.tc.devRef main_v4_2) = _ from e]
    funext i
    idx_vars i
    pointwise
  · unfold afterTail₀
    simp only [hostOps1, List.flatten_cons, List.flatten_nil, List.append_nil]
    after_results
    have e := (withArrays_arr (cfgs 0).spec arr_inj c (V0 m c) (fun w => (dats m 0 c).arrAt w (cfgs 0).N) 7).trans (arr7 m c (h c))
    rw [show withArrays (cfgs 0).spec c (V0 m c) (fun w => (dats m 0 c).arrAt w (cfgs 0).N) (Proc.tc.devRef main_v4_4) = _ from e]
    funext i
    rfl
  · exact arr4 m c (h c)
  · exact arr3 m c (h c)
  · exact W_main_arg0 m (dats m) c

end Cert.KernelIdeal.Points

end
-- ==== Proof.Ref.Argmin.lean ====
/- The reference's index of the least distance is the first least index of the row. -/
module

public import proofs.«01_k».proof.Proof.Gen.ReferenceIdeal
public import proofs.«01_k».proof.Proof.Least

@[expose] public section

set_option maxRecDepth 16384

noncomputable section

namespace Cert.ReferenceIdeal.Stage

open Idealize.ShloMosaic
open Cert.ReferenceIdeal Cert.ReferenceIdeal.Gen

local instance : Facts := Cert.ReferenceIdeal.Gen.facts

/-- The word of infinity. -/
theorem inf_bits : Ideal.ofBits FTy.f32 0x7F800000#32 = ⊤ := by
  simp [Ideal.ofBits, Ideal.ieee]

/-- One step of the reference's search, on words that stand for small numbers. -/
theorem reducer_keep (a b : EReal) (i j : ℕ) (hi : i < 2 ^ 31) (hj : j < 2 ^ 31) :
    reducer_argmin_f32_i32 (F := Ideal) (a, BitVec.ofNat 32 i) (b, BitVec.ofNat 32 j)
      = ((Least.keep (a, i) (b, j)).1, BitVec.ofNat 32 (Least.keep (a, i) (b, j)).2) := by
  have hs : (BitVec.ofNat 32 i).slt (BitVec.ofNat 32 j) = decide (i < j) := by
    rw [BitVec.slt, BitVec.toInt_eq_toNat_cond, BitVec.toInt_eq_toNat_cond, BitVec.toNat_ofNat, BitVec.toNat_ofNat,
      Nat.mod_eq_of_lt (by omega), Nat.mod_eq_of_lt (by omega), if_pos (by omega), if_pos (by omega)]
    simp
  unfold reducer_argmin_f32_i32 Least.keep
  dsimp only
  by_cases h : a < b
  · simp [Ideal.cmpf_def, Ideal.cmp, IntOp.ori, IntOp.andi, IntOp.cmpi, Scalar.select, h, h.ne]
  · by_cases e : a = b
    · by_cases hij : i < j
      · simp [Ideal.cmpf_def, Ideal.cmp, IntOp.ori, IntOp.andi, IntOp.cmpi, Scalar.select, e, hs, hij]
      · simp [Ideal.cmpf_def, Ideal.cmp, IntOp.ori, IntOp.andi, IntOp.cmpi, Scalar.select, e, hs, hij]
    · simp [Ideal.cmpf_def, Ideal.cmp, IntOp.ori, IntOp.andi, IntOp.cmpi, Scalar.select, h, e]

/-- The reference's search along a list of a row's entries, as the same search on numbers. -/
theorem foldl_reducer (f : Fin 8192 → EReal) (L : List (Fin 8192)) : ∀ (v : EReal) (i : ℕ), i < 8192 →
    (L.map fun k => (f k, BitVec.ofNat 32 k.val)).foldl (reducer_argmin_f32_i32 (F := Ideal)) (v, BitVec.ofNat 32 i)
      = (((L.map fun k => (f k, k.val)).foldl Least.keep (v, i)).1,
        BitVec.ofNat 32 ((L.map fun k => (f k, k.val)).foldl Least.keep (v, i)).2) := by
  induction L with
  | nil => intro v i _; rfl
  | cons x L ih =>
    intro v i hi
    have hx := x.isLt
    have hb : (Least.keep (v, i) (f x, x.val)).2 < 8192 := by
      unfold Least.keep
      dsimp only
      split
      · exact hi
      · exact hx
    simp only [List.map_cons, List.foldl_cons]
    rw [reducer_keep v (f x) i x.val (by omega) (by omega)]
    exact ih _ _ hb

/-- The words of the least distances' indices, of a matrix of distances. -/
def idx (D : FVec Ideal S2048x8192 .f32) : IVec S2048 32 := fun j =>
  (Host.argReduce (reducer_argmin_f32_i32 (F := Ideal)) D (iotaInDim S2048x8192 32 1) (constant S_ .f32 0x7F800000#32)
    (constantI S_ 32 0#32) reducesTo_S2048x8192_S2048_d1 h_S_ j).2

/-- Of a list of places, those that `p` keeps, each holding the entry of one column and its number: if every column is
    among them, the search along them ends at the first least entry. -/
theorem search_first {N : ℕ} (ns : List (Fin N)) (p : Fin N → Bool) (val : Fin N → EReal × BitVec 32)
    (col : Fin N → Fin 8192) (f : Fin 8192 → EReal) (hf : ∀ k, f k < ⊤)
    (hval : ∀ n, p n = true → val n = (f (col n), BitVec.ofNat 32 (col n).val))
    (hall : ∀ k, ∃ n ∈ ns, p n = true ∧ col n = k) :
    ((ns.filter p).map val).foldl (reducer_argmin_f32_i32 (F := Ideal)) (⊤, BitVec.ofNat 32 0)
      = (f (Least.first f), BitVec.ofNat 32 (Least.first f).val) := by
  have hL : (ns.filter p).map val
      = ((ns.filter p).map col).map fun k => (f k, BitVec.ofNat 32 k.val) := by
    rw [List.map_map]
    exact List.map_congr_left fun n hn => hval n (List.mem_filter.mp hn).2
  rw [hL, foldl_reducer f _ ⊤ 0 (by omega), Least.foldl_keep_first f hf _ _ 0 _ (Least.first_spec f)]
  intro k
  obtain ⟨n, hn, hp, hk⟩ := hall k
  exact List.mem_map.mpr ⟨n, List.mem_filter.mpr ⟨hn, hp⟩, hk⟩

/-- The search of any array along a fiber whose places are `at` the columns. -/
theorem argmin_first {s t u : Shape} {axes : List (Fin s.rank)} (D : FVec Ideal s .f32) (y : s.Idx → BitVec 32) (ci : FVec Ideal u .f32)
    (cw : u.Idx → BitVec 32) (h : s.ReducesTo axes t) (hu : 0 < u.numel) (j : t.Idx) (col : s.Idx → Fin 8192)
    (place : Fin 8192 → s.Idx) (hplace : ∀ i, h.drop i = j → i = place (col i)) (hy : ∀ i, y i = BitVec.ofNat 32 (col i).val)
    (hdrop : ∀ k, h.drop (place k) = j) (hcol : ∀ k, col (place k) = k) (hi : ci (Shape.Idx.first hu) = (⊤ : EReal))
    (hw : cw (Shape.Idx.first hu) = BitVec.ofNat 32 0) (hD : ∀ k, D (place k) < (⊤ : EReal)) :
    (Host.argReduce (reducer_argmin_f32_i32 (F := Ideal)) D y ci cw h hu j).2
      = BitVec.ofNat 32 (Least.first fun k => (D (place k) : EReal)).val := by
  rw [Ideal.argReduce_eq_reduce2, Host.reduce2_eq_foldl_fiber, hi, hw]
  refine congrArg Prod.snd (search_first (List.finRange s.numel) _ _ (fun n => col (s.rowMajor.symm n))
    (fun k => D (place k)) hD ?_ ?_)
  · intro n hn
    exact Prod.ext (congrArg D (hplace _ (of_decide_eq_true hn))) (hy _)
  · intro k
    refine ⟨s.rowMajor (place k), List.mem_finRange _, decide_eq_true ?_, ?_⟩
    · rw [Equiv.symm_apply_apply, hdrop]
    · rw [Equiv.symm_apply_apply, hcol]

/-- Dropping the columns leaves the row. -/
theorem drop_eq (i : S2048x8192.Idx) : reducesTo_S2048x8192_S2048_d1.drop i = ix1 (i 0) := by
  funext a
  apply Fin.ext
  match a with
  | ⟨0, _⟩ => exact Shape.ReducesTo.drop_apply_val _ i 0

/-- The columns of a row are the places that drop to it. -/
theorem place_eq (r : Fin 2048) (i : S2048x8192.Idx) (hi : reducesTo_S2048x8192_S2048_d1.drop i = ix1 r) :
    i = ix2 r (i 1 : Fin 8192) := by
  rw [drop_eq] at hi
  have e0 : i 0 = r := congrFun hi 0
  funext a
  match a with
  | ⟨0, _⟩ => exact e0
  | ⟨1, _⟩ => rfl

/-- Each is the first least index of its row. -/
theorem idx_apply (D : FVec Ideal S2048x8192 .f32) (r : Fin 2048) (hD : ∀ k, D (ix2 r k) < (⊤ : EReal)) :
    idx D (ix1 r) = BitVec.ofNat 32 (Least.first fun k => (D (ix2 r k) : EReal)).val := by
  have H := argmin_first D (iotaInDim S2048x8192 32 1) (constant S_ .f32 0x7F800000#32 : FVec Ideal S_ .f32)
    (constantI S_ 32 0#32) reducesTo_S2048x8192_S2048_d1 h_S_ (ix1 r) (fun i => (i 1 : Fin 8192)) (fun k => ix2 r k)
    (place_eq r) (fun _ => rfl) (fun _ => drop_eq _) (fun _ => rfl) inf_bits rfl hD
  have e : idx D = fun j => (Host.argReduce (reducer_argmin_f32_i32 (F := Ideal)) D (iotaInDim S2048x8192 32 1)
    (constant S_ .f32 0x7F800000#32) (constantI S_ 32 0#32) reducesTo_S2048x8192_S2048_d1 h_S_ j).2 := rfl
  rw [e]
  exact H

end Cert.ReferenceIdeal.Stage

end
-- ==== Proof.Ref.Stage.lean ====
/- The reference's steps for one codebook, as functions of arrays, each read at an index. -/
module

public import Idealize.ShloMosaic.Lib.Claim
public import proofs.«01_k».proof.Proof.Spec
public import proofs.«01_k».proof.Proof.Ref.Argmin

@[expose] public section

set_option maxRecDepth 16384

noncomputable section

namespace Cert.ReferenceIdeal.Stage

open Idealize.ShloMosaic
open Cert.ReferenceIdeal Cert.ReferenceIdeal.Gen

local instance : Facts := Cert.ReferenceIdeal.Gen.facts

/-- The zero, as a scalar array. -/
def zero : FVec Ideal S_ .f32 := constant S_ .f32 0x00000000#32

/-- The squared distances from the rows `x` to the words `w`. -/
def dist (x : FVec Ideal S2048x32 .f32) (w : FVec Ideal S8192x32 .f32) : FVec Ideal S2048x8192 .f32 :=
  subf
    (addf
      (broadcastInDim S2048x8192 ![0, 1] bcast_S2048x1_S2048x8192_0_1
        (broadcastInDim S2048x1 ![0] bcast_S2048_S2048x1_0
          (Host.reduceAdd (mulf x x) (constant S_ .f32 0x00000000#32) reducesTo_S2048x32_S2048_d1 h_S_)))
      (broadcastInDim S2048x8192 ![0, 1] bcast_S1x8192_S2048x8192_0_1
        (broadcastInDim S1x8192 ![1] bcast_S8192_S1x8192_1
          (Host.reduceAdd (mulf w w) (constant S_ .f32 0x00000000#32) reducesTo_S8192x32_S8192_d1 h_S_))))
    (mulf (broadcastInDim S2048x8192 ![] bcast_S_S2048x8192 (constant S_ .f32 0x40000000#32))
      (Host.dotGeneral dot_S2048x32_S32x8192_S2048x8192_1_0_0_1_n_n none x
        (transpose S32x8192 [1, 0] w transposes_S8192x32_S32x8192_1_0)))

/-- The indicator matrix of the indices `I`. -/
def hot (I : IVec S2048 32) : FVec Ideal S2048x8192 .f32 :=
  uitofp .f32
    (cmpi .eq
      (broadcastInDim S2048x8192 ![0, 1] bcast_S2048x1_S2048x8192_0_1
        (broadcastInDim S2048x1 ![0] bcast_S2048_S2048x1_0 I))
      (broadcastInDim S2048x8192 ![0, 1] bcast_S1x8192_S2048x8192_0_1 (iotaInDim S1x8192 32 1)))

/-- The chosen words: the indicator matrix times the codebook. -/
def word (H : FVec Ideal S2048x8192 .f32) (w : FVec Ideal S8192x32 .f32) : FVec Ideal S2048x32 .f32 :=
  Host.dotGeneral dot_S2048x8192_S8192x32_S2048x32_1_0_0_1_n_n none H w

/-- The mean squared difference of the chosen words and the rows. -/
def mse (q x : FVec Ideal S2048x32 .f32) : FVec Ideal S_ .f32 :=
  Host.divf (Host.reduceAdd (mulf (subf q x) (subf q x)) (constant S_ .f32 0x00000000#32) reducesTo_S2048x32_S_d0_1 h_S_)
    (constant S_ .f32 0x47800000#32)

/-- A running loss and one codebook's share of it. -/
def loss (prev : FVec Ideal S_ .f32) (q x : FVec Ideal S2048x32 .f32) : FVec Ideal S_ .f32 :=
  addf (addf prev (mse q x)) (mulf (constant S_ .f32 0x3E800000#32) (mse q x))

/-- The rows moved onto the chosen words. -/
def moved (q x : FVec Ideal S2048x32 .f32) : FVec Ideal S2048x32 .f32 := addf x (subf q x)

/-- How often each word was chosen, as a share of the rows. -/
def share (H : FVec Ideal S2048x8192 .f32) : FVec Ideal S8192 .f32 :=
  Host.divf (Host.reduceAdd H (constant S_ .f32 0x00000000#32) reducesTo_S2048x8192_S8192_d0 h_S_)
    (broadcastInDim S8192 ![] bcast_S_S8192 (constant S_ .f32 0x45000000#32))

/-- A running perplexity and one codebook's own. -/
def perp (prev : FVec Ideal S_ .f32) (H : FVec Ideal S2048x8192 .f32) : FVec Ideal S_ .f32 :=
  addf prev (Host.exp (Host.negf (Host.reduceAdd
    (mulf (share H) (Host.log (addf (share H) (broadcastInDim S8192 ![] bcast_S_S8192 (constant S_ .f32 0x2EDBE6FF#32)))))
    (constant S_ .f32 0x00000000#32) reducesTo_S8192_S_d0 h_S_)))

/-- A quarter of a total over the four codebooks. -/
def quarter (a : FVec Ideal S_ .f32) : FVec Ideal S_ .f32 := Host.divf a (constant S_ .f32 0x40800000#32)

/-- Four arrays joined along their first coordinate. -/
def joinWords (a b c e : FVec Ideal S1x2048x32 .f32) : FVec Ideal S4x2048x32 .f32 :=
  concatenate S4x2048x32 0 [⟨S1x2048x32, a⟩, ⟨S1x2048x32, b⟩, ⟨S1x2048x32, c⟩, ⟨S1x2048x32, e⟩]
    concatenates_S1x2048x32_S1x2048x32_S1x2048x32_S1x2048x32_S4x2048x32_d0

/-- Four arrays over rows and coordinates, stacked. -/
def stackWords (a b c e : FVec Ideal S2048x32 .f32) : FVec Ideal S4x2048x32 .f32 :=
  joinWords (broadcastInDim S1x2048x32 ![1, 2] bcast_S2048x32_S1x2048x32_1_2 a) (broadcastInDim S1x2048x32 ![1, 2] bcast_S2048x32_S1x2048x32_1_2 b)
    (broadcastInDim S1x2048x32 ![1, 2] bcast_S2048x32_S1x2048x32_1_2 c) (broadcastInDim S1x2048x32 ![1, 2] bcast_S2048x32_S1x2048x32_1_2 e)

/-- Four larger arrays, likewise. -/
def joinHot (a b c e : FVec Ideal S1x2048x8192 .f32) : FVec Ideal S4x2048x8192 .f32 :=
  concatenate S4x2048x8192 0 [⟨S1x2048x8192, a⟩, ⟨S1x2048x8192, b⟩, ⟨S1x2048x8192, c⟩, ⟨S1x2048x8192, e⟩]
    concatenates_S1x2048x8192_S1x2048x8192_S1x2048x8192_S1x2048x8192_S4x2048x8192_d0

/-- Four indicator matrices, stacked. -/
def stackHot (a b c e : FVec Ideal S2048x8192 .f32) : FVec Ideal S4x2048x8192 .f32 :=
  joinHot (broadcastInDim S1x2048x8192 ![1, 2] bcast_S2048x8192_S1x2048x8192_1_2 a) (broadcastInDim S1x2048x8192 ![1, 2] bcast_S2048x8192_S1x2048x8192_1_2 b)
    (broadcastInDim S1x2048x8192 ![1, 2] bcast_S2048x8192_S1x2048x8192_1_2 c) (broadcastInDim S1x2048x8192 ![1, 2] bcast_S2048x8192_S1x2048x8192_1_2 e)

/-- A distance. -/
theorem dist_apply (x : FVec Ideal S2048x32 .f32) (w : FVec Ideal S8192x32 .f32) (r : Fin 2048) (k : Fin 8192) :
    dist x w (ix2 r k) = (∑ d : Fin 32, x (ix2 r d) * x (ix2 r d)) + (∑ d : Fin 32, w (ix2 k d) * w (ix2 k d))
      - Ideal.ofBits .f32 0x40000000#32 * ∑ d : Fin 32, x (ix2 r d) * w (ix2 k d) := by
  pointwise [dist]

/-- An entry of the indicator matrix. -/
theorem hot_apply (I : IVec S2048 32) (r : Fin 2048) (k : Fin 8192) :
    hot I (ix2 r k) = if I (ix1 r) = BitVec.ofNat 32 k.val then (1 : EReal) else 0 := by
  pointwise [hot]
  show (((IntOp.cmpi .eq (I (ix1 r)) (BitVec.ofNat 32 k.val)).toNat : ℝ) : EReal) = _
  by_cases h : I (ix1 r) = BitVec.ofNat 32 k.val
  · simp [IntOp.cmpi, h]
  · simp [IntOp.cmpi, h]

/-- A coordinate of a chosen word. -/
theorem word_apply (H : FVec Ideal S2048x8192 .f32) (w : FVec Ideal S8192x32 .f32) (r : Fin 2048) (d : Fin 32) :
    word H w (ix2 r d) = ∑ k : Fin 8192, H (ix2 r k) * w (ix2 k d) := by
  pointwise [word]

/-- The mean squared difference. -/
theorem mse_apply (q x : FVec Ideal S2048x32 .f32) (i : S_.Idx) :
    mse q x i = Ideal.div (∑ r : Fin 2048, ∑ d : Fin 32, (q (ix2 r d) - x (ix2 r d)) * (q (ix2 r d) - x (ix2 r d)))
      (Ideal.ofBits .f32 0x47800000#32) := by
  pointwise [mse]

/-- A coordinate of a moved row. -/
theorem moved_apply (q x : FVec Ideal S2048x32 .f32) (r : Fin 2048) (d : Fin 32) :
    moved q x (ix2 r d) = x (ix2 r d) + (q (ix2 r d) - x (ix2 r d)) := rfl

/-- The share of the rows that chose a word. -/
theorem share_apply (H : FVec Ideal S2048x8192 .f32) (k : Fin 8192) :
    share H (ix1 k) = Ideal.div (∑ r : Fin 2048, H (ix2 r k)) (Ideal.ofBits .f32 0x45000000#32) := by
  pointwise [share]

/-- The running perplexity. -/
theorem perp_apply (prev : FVec Ideal S_ .f32) (H : FVec Ideal S2048x8192 .f32) (i : S_.Idx) :
    perp prev H i = prev i + Ideal.exp (-∑ k : Fin 8192,
      share H (ix1 k) * Ideal.log (share H (ix1 k) + Ideal.ofBits .f32 0x2EDBE6FF#32)) := by
  pointwise [perp]

/-- A stack of arrays, read in the array of its first coordinate. -/
theorem stackWords_apply (a : Fin 4 → FVec Ideal S2048x32 .f32) (g : Fin 4) (r : Fin 2048) (d : Fin 32) :
    stackWords (a 0) (a 1) (a 2) (a 3) (ix3 g r d) = a g (ix2 r d) := by
  fin_cases g
  all_goals pointwise [stackWords, joinWords]

/-- A stack of indicator matrices, likewise. -/
theorem stackHot_apply (a : Fin 4 → FVec Ideal S2048x8192 .f32) (g : Fin 4) (r : Fin 2048) (k : Fin 8192) :
    stackHot (a 0) (a 1) (a 2) (a 3) (ix3 g r k) = a g (ix2 r k) := by
  fin_cases g
  all_goals pointwise [stackHot, joinHot]

/-! ### The arguments of one codebook -/

/-- The rows' vectors for codebook `g`, cut out of all of them. -/
def rows (A : FVec Ideal S2048x4x32 .f32) : Fin 4 → FVec Ideal S2048x32 .f32
  | 0 => shapeCast S2048x32 (extractStridedSlice S1x2048x32 ![0, 0, 0]
      (transpose S4x2048x32 [1, 0, 2] A transposes_S2048x4x32_S4x2048x32_1_0_2) slices_S4x2048x32_S1x2048x32_0_0_0)
      shapeCasts_S1x2048x32_S2048x32
  | 1 => shapeCast S2048x32 (extractStridedSlice S1x2048x32 ![1, 0, 0]
      (transpose S4x2048x32 [1, 0, 2] A transposes_S2048x4x32_S4x2048x32_1_0_2) slices_S4x2048x32_S1x2048x32_1_0_0)
      shapeCasts_S1x2048x32_S2048x32
  | 2 => shapeCast S2048x32 (extractStridedSlice S1x2048x32 ![2, 0, 0]
      (transpose S4x2048x32 [1, 0, 2] A transposes_S2048x4x32_S4x2048x32_1_0_2) slices_S4x2048x32_S1x2048x32_2_0_0)
      shapeCasts_S1x2048x32_S2048x32
  | 3 => shapeCast S2048x32 (extractStridedSlice S1x2048x32 ![3, 0, 0]
      (transpose S4x2048x32 [1, 0, 2] A transposes_S2048x4x32_S4x2048x32_1_0_2) slices_S4x2048x32_S1x2048x32_3_0_0)
      shapeCasts_S1x2048x32_S2048x32

/-- Codebook `g`, cut out of the four. -/
def book (B : FVec Ideal S4x8192x32 .f32) : Fin 4 → FVec Ideal S8192x32 .f32
  | 0 => shapeCast S8192x32 (extractStridedSlice S1x8192x32 ![0, 0, 0] B slices_S4x8192x32_S1x8192x32_0_0_0)
      shapeCasts_S1x8192x32_S8192x32
  | 1 => shapeCast S8192x32 (extractStridedSlice S1x8192x32 ![1, 0, 0] B slices_S4x8192x32_S1x8192x32_1_0_0)
      shapeCasts_S1x8192x32_S8192x32
  | 2 => shapeCast S8192x32 (extractStridedSlice S1x8192x32 ![2, 0, 0] B slices_S4x8192x32_S1x8192x32_2_0_0)
      shapeCasts_S1x8192x32_S8192x32
  | 3 => shapeCast S8192x32 (extractStridedSlice S1x8192x32 ![3, 0, 0] B slices_S4x8192x32_S1x8192x32_3_0_0)
      shapeCasts_S1x8192x32_S8192x32

/-- The rows of one codebook, read from the whole array. -/
theorem rows_apply (A : FVec Ideal S2048x4x32 .f32) (g : Fin 4) (r : Fin 2048) (d : Fin 32) :
    rows A g (ix2 r d) = A (ix3 r g d) := by
  fin_cases g
  all_goals pointwise [rows]

/-- One codebook, read from the whole array. -/
theorem book_apply (B : FVec Ideal S4x8192x32 .f32) (g : Fin 4) (k : Fin 8192) (d : Fin 32) :
    book B g (ix2 k d) = B (ix3 g k d) := by
  fin_cases g
  all_goals pointwise [book]

/-- The indicator matrix of codebook `g`. -/
def hotOf (A : FVec Ideal S2048x4x32 .f32) (B : FVec Ideal S4x8192x32 .f32) (g : Fin 4) : FVec Ideal S2048x8192 .f32 :=
  hot (idx (dist (rows A g) (book B g)))

/-- The chosen words of codebook `g`. -/
def wordOf (A : FVec Ideal S2048x4x32 .f32) (B : FVec Ideal S4x8192x32 .f32) (g : Fin 4) : FVec Ideal S2048x32 .f32 :=
  word (hotOf A B g) (book B g)

/-- The mean loss. -/
def lossOut (A : FVec Ideal S2048x4x32 .f32) (B : FVec Ideal S4x8192x32 .f32) : FVec Ideal S_ .f32 :=
  quarter (loss (loss (loss (loss zero (wordOf A B 0) (rows A 0)) (wordOf A B 1) (rows A 1)) (wordOf A B 2) (rows A 2))
    (wordOf A B 3) (rows A 3))

/-- The mean perplexity. -/
def perpOut (A : FVec Ideal S2048x4x32 .f32) (B : FVec Ideal S4x8192x32 .f32) : FVec Ideal S_ .f32 :=
  quarter (perp (perp (perp (perp zero (hotOf A B 0)) (hotOf A B 1)) (hotOf A B 2)) (hotOf A B 3))

/-- All the rows moved onto their words, rows first. -/
def movedOut (A : FVec Ideal S2048x4x32 .f32) (B : FVec Ideal S4x8192x32 .f32) : FVec Ideal S2048x4x32 .f32 :=
  transpose S2048x4x32 [1, 0, 2]
    (stackWords (moved (wordOf A B 0) (rows A 0)) (moved (wordOf A B 1) (rows A 1)) (moved (wordOf A B 2) (rows A 2))
      (moved (wordOf A B 3) (rows A 3)))
    transposes_S4x2048x32_S2048x4x32_1_0_2

/-- All the chosen words. -/
def wordsOut (A : FVec Ideal S2048x4x32 .f32) (B : FVec Ideal S4x8192x32 .f32) : FVec Ideal S4x2048x32 .f32 :=
  stackWords (wordOf A B 0) (wordOf A B 1) (wordOf A B 2) (wordOf A B 3)

/-- All the indicator matrices. -/
def hotsOut (A : FVec Ideal S2048x4x32 .f32) (B : FVec Ideal S4x8192x32 .f32) : FVec Ideal S4x2048x8192 .f32 :=
  stackHot (hotOf A B 0) (hotOf A B 1) (hotOf A B 2) (hotOf A B 3)

end Cert.ReferenceIdeal.Stage

end
-- ==== Proof.Ref.Line.lean ====
/- What the reference leaves in the buffers of its results: one straight line of host operations, read back. -/
module

public import Idealize.ShloMosaic.Lib.Claim
public import Idealize.ShloMosaic.Lib.StableHlo.ReadAt
public import proofs.«01_k».proof.Proof.Gen.ReferenceIdeal
public import proofs.«01_k».proof.Proof.Ref.Stage

@[expose] public section

set_option maxRecDepth 16384

noncomputable section

namespace Cert.ReferenceIdeal.Line

open Idealize.ShloMosaic Idealize.ShloMosaic.TcCoe Idealize.SL.Sem
open Cert.ReferenceIdeal Cert.ReferenceIdeal.Gen

local instance : Facts := Cert.ReferenceIdeal.Gen.facts

set_option maxHeartbeats 4000000
/-- The reference is one straight line of operations. -/
def line : { ops : List (HloOp τ sig (Elt Ideal)) // ∀ d, StableHlo.IsSeq (main (F := Ideal) d) ops } := by
  apply Subtype.mk
  hlo_seq

/-- Its operations. -/
abbrev ops : List (HloOp τ sig (Elt Ideal)) := line.1

variable (V : Valuation τ sig (Elt Ideal))

/-- The first argument at the start. -/
abbrev A : FVec Ideal S2048x4x32 .f32 := V (Proc.devRef .tc main_arg0)
/-- The second argument at the start. -/
abbrev B : FVec Ideal S4x8192x32 .f32 := V (Proc.devRef .tc main_arg1)

/-- The loss. -/
theorem loss_read : StableHlo.after ops V (Proc.devRef .tc main_v181) = Stage.lossOut (A V) (B V) := by
  after_reads_simp
  simp -implicitDefEqProofs only [StableHlo.TRef.toBuf, StableHlo.TRef.ofBuf, cast_eq, StableHlo.TRef.of]
  clean_types
  delta Stage.lossOut Stage.quarter Stage.loss Stage.mse Stage.zero Stage.wordOf Stage.word Stage.hotOf Stage.hot Stage.idx
    Stage.dist Stage.rows Stage.book
  rfl

/-- The perplexity. -/
theorem perp_read : StableHlo.after ops V (Proc.devRef .tc main_v182) = Stage.perpOut (A V) (B V) := by
  after_reads_simp
  simp -implicitDefEqProofs only [StableHlo.TRef.toBuf, StableHlo.TRef.ofBuf, cast_eq, StableHlo.TRef.of]
  clean_types
  delta Stage.perpOut Stage.quarter Stage.perp Stage.share Stage.zero Stage.hotOf Stage.hot Stage.idx
    Stage.dist Stage.rows Stage.book
  rfl

/-- The chosen words. -/
theorem words_read : StableHlo.after ops V (Proc.devRef .tc main_v193) = Stage.wordsOut (A V) (B V) := by
  after_reads_simp
  change Stage.joinWords
    (StableHlo.upto ops V 281 (Proc.devRef .tc main_v189))
    (StableHlo.upto ops V 281 (Proc.devRef .tc main_v190))
    (StableHlo.upto ops V 281 (Proc.devRef .tc main_v191))
    (StableHlo.upto ops V 281 (Proc.devRef .tc main_v192)) = _
  after_reads_simp
  simp -implicitDefEqProofs only [StableHlo.TRef.toBuf, StableHlo.TRef.ofBuf, cast_eq, StableHlo.TRef.of]
  clean_types
  delta Stage.wordsOut Stage.stackWords Stage.wordOf Stage.word Stage.hotOf Stage.hot Stage.idx Stage.dist Stage.rows Stage.book
  rfl

/-- The indicator matrices. -/
theorem hots_read : StableHlo.after ops V (Proc.devRef .tc main_v198) = Stage.hotsOut (A V) (B V) := by
  after_reads_simp
  change Stage.joinHot
    (StableHlo.upto ops V 286 (Proc.devRef .tc main_v194))
    (StableHlo.upto ops V 286 (Proc.devRef .tc main_v195))
    (StableHlo.upto ops V 286 (Proc.devRef .tc main_v196))
    (StableHlo.upto ops V 286 (Proc.devRef .tc main_v197)) = _
  after_reads_simp
  simp -implicitDefEqProofs only [StableHlo.TRef.toBuf, StableHlo.TRef.ofBuf, cast_eq, StableHlo.TRef.of]
  clean_types
  delta Stage.hotsOut Stage.stackHot Stage.hotOf Stage.hot Stage.idx Stage.dist Stage.rows Stage.book
  rfl

/-- The moved rows. -/
theorem moved_read : StableHlo.after ops V (Proc.devRef .tc main_v188) = Stage.movedOut (A V) (B V) := by
  after_reads_simp
  change transpose S2048x4x32 [1, 0, 2] (Stage.joinWords
    (StableHlo.upto ops V 275 (Proc.devRef .tc main_v183))
    (StableHlo.upto ops V 275 (Proc.devRef .tc main_v184))
    (StableHlo.upto ops V 275 (Proc.devRef .tc main_v185))
    (StableHlo.upto ops V 275 (Proc.devRef .tc main_v186))) transposes_S4x2048x32_S2048x4x32_1_0_2 = _
  after_reads_simp
  simp -implicitDefEqProofs only [StableHlo.TRef.toBuf, StableHlo.TRef.ofBuf, cast_eq, StableHlo.TRef.of]
  clean_types
  delta Stage.movedOut Stage.stackWords Stage.moved Stage.wordOf Stage.word Stage.hotOf Stage.hot Stage.idx Stage.dist Stage.rows
    Stage.book
  rfl

/-- The reference runs, and every buffer ends at what the line leaves in it. -/
theorem run (m : (ℓ : Loc nD τ sig) → Buf (Elt Ideal) ℓ) (g : Dev nD → PrngReg) :
    θ_run (defs (F := Ideal)) (onTc (main (F := Ideal))) ⟨m, fun _ => 0, g⟩ (fun r => ∀ c : Dev nD,
      r.2.mem ((c.tc : Thread nD τ).loc main_v181)
          = Stage.lossOut (m ((c.tc : Thread nD τ).loc main_arg0)) (m ((c.tc : Thread nD τ).loc main_arg1))
      ∧ r.2.mem ((c.tc : Thread nD τ).loc main_v188)
          = Stage.movedOut (m ((c.tc : Thread nD τ).loc main_arg0)) (m ((c.tc : Thread nD τ).loc main_arg1))
      ∧ r.2.mem ((c.tc : Thread nD τ).loc main_v182)
          = Stage.perpOut (m ((c.tc : Thread nD τ).loc main_arg0)) (m ((c.tc : Thread nD τ).loc main_arg1))
      ∧ r.2.mem ((c.tc : Thread nD τ).loc main_v193)
          = Stage.wordsOut (m ((c.tc : Thread nD τ).loc main_arg0)) (m ((c.tc : Thread nD τ).loc main_arg1))
      ∧ r.2.mem ((c.tc : Thread nD τ).loc main_v198)
          = Stage.hotsOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have hfresh : ∀ op ∈ ops, op.fresh = ∅ := by
    intro _ h
    (repeat (cases h with | head => rfl | tail _ h => ?_))
    exact nomatch h
  refine θ_run_mono (StableHlo.run_hlo _ _ line.2 (by decide) (by decide) (by simp [ops, line]) hfresh m g) fun r h c => ?_
  refine ⟨(h c _).trans (loss_read _), (h c _).trans (moved_read _), (h c _).trans (perp_read _), (h c _).trans (words_read _),
    (h c _).trans (hots_read _), (h c _).trans ?_, (h c _).trans ?_⟩
  · after_reads_simp
  · after_reads_simp

/-- The reference declares no semaphore, and it leaves its arguments as they were. -/
theorem frame (m : (ℓ : Loc nD τ sig) → Buf (Elt Ideal) ℓ) (g : Dev nD → PrngReg) :
    θ_run (defs (F := Ideal)) (onTc (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  θ_run_mono (run m g) fun r h => ⟨fun c => ⟨(h c).2.2.2.2.2.1, (h c).2.2.2.2.2.2⟩, sem_eq_zero_of_no_sems (by decide) r.2⟩

end Cert.ReferenceIdeal.Line

end
-- ==== Proof.Equation.lean ====
/- Kernel and reference agree: the reference's five results, in the quantizer's terms.

The arithmetic that differs between the two is on real numbers: twice a sum against a sum of doubled products, a mean
against a product with the reciprocal, and one total over the codebooks against a running one. -/
module

public import proofs.«01_k».proof.Proof.Ref.Stage
public import proofs.«01_k».proof.Proof.Points

@[expose] public section

set_option maxRecDepth 16384

noncomputable section

namespace Cert.Equation

open Idealize.ShloMosaic
open Cert.ReferenceIdeal Cert.ReferenceIdeal.Gen Cert.ReferenceIdeal.Stage

/-! ### The constants -/

/-- Two, from its bits. -/
theorem two_bits : Ideal.ofBits FTy.f32 0x40000000#32 = ((2 : ℝ) : EReal) := by
  simp [Ideal.ofBits, Ideal.ieee, -EReal.coe_mul]; norm_num
/-- The cells of one codebook's rows, 65536, from its bits. -/
theorem cells_bits : Ideal.ofBits FTy.f32 0x47800000#32 = ((65536 : ℝ) : EReal) := by
  simp [Ideal.ofBits, Ideal.ieee, -EReal.coe_mul]; norm_num
/-- A quarter, from its bits. -/
theorem fourth_bits : Ideal.ofBits FTy.f32 0x3E800000#32 = ((1 / 4 : ℝ) : EReal) := by
  simp [Ideal.ofBits, Ideal.ieee, -EReal.coe_mul]; norm_num
/-- The number of rows, 2048, from its bits. -/
theorem rows_bits : Ideal.ofBits FTy.f32 0x45000000#32 = ((2048 : ℝ) : EReal) := by
  simp [Ideal.ofBits, Ideal.ieee, -EReal.coe_mul]; norm_num
/-- One over the number of rows, from its bits. -/
theorem rowsInv_bits : Ideal.ofBits FTy.f32 0x3A000000#32 = ((1 / 2048 : ℝ) : EReal) := by
  simp [Ideal.ofBits, Ideal.ieee, -EReal.coe_mul]; norm_num
/-- One and a quarter over the number of cells, from its bits. -/
theorem weight_bits : Ideal.ofBits FTy.f32 0x37A00000#32 = ((5 / 262144 : ℝ) : EReal) := by
  simp [Ideal.ofBits, Ideal.ieee, -EReal.coe_mul]; norm_num
/-- Zero, from its bits. -/
theorem zero_bits : Ideal.ofBits FTy.f32 0x00000000#32 = (0 : EReal) := by
  simp [Ideal.ofBits, Ideal.ieee]

/-! ### Arithmetic of real numbers among the extended ones -/

/-- A real factor goes into a sum of real terms. -/
theorem mul_sum_real {ι : Type} [Fintype ι] (c : ℝ) (f : ι → EReal) (hf : ∀ i, Spec.Real (f i)) :
    (c : EReal) * ∑ i, f i = ∑ i, (c : EReal) * f i := by
  classical
  suffices h : ∀ s : Finset ι, Spec.Real (∑ i ∈ s, f i) ∧ (c : EReal) * ∑ i ∈ s, f i = ∑ i ∈ s, (c : EReal) * f i from
    (h Finset.univ).2
  intro s
  induction s using Finset.induction_on with
  | empty => exact ⟨⟨0, rfl⟩, by simp⟩
  | insert a s ha ih =>
    obtain ⟨hr, he⟩ := ih
    rw [Finset.sum_insert ha, Finset.sum_insert ha, ← he]
    obtain ⟨x, hx⟩ := hf a
    obtain ⟨y, hy⟩ := hr
    rw [hx, hy]
    exact ⟨⟨x + y, (EReal.coe_add x y).symm⟩, by
      rw [← EReal.coe_add, ← EReal.coe_mul, ← EReal.coe_mul, ← EReal.coe_mul, ← EReal.coe_add, mul_add]⟩

/-- Doubling a product of reals is doubling its first factor. -/
theorem two_mul_real (a b : EReal) (ha : Spec.Real a) (hb : Spec.Real b) : ((2 : ℝ) : EReal) * (a * b) = (a + a) * b := by
  obtain ⟨x, rfl⟩ := ha
  obtain ⟨y, rfl⟩ := hb
  rw [← EReal.coe_add, ← EReal.coe_mul, ← EReal.coe_mul, ← EReal.coe_mul]
  congr 1
  ring

/-- The running loss over four codebooks is one weighted total. -/
theorem loss_real (a b c e : EReal) (ha : Spec.Real a) (hb : Spec.Real b) (hc : Spec.Real c) (he : Spec.Real e) :
    0 + a * ((1 / 65536 : ℝ) : EReal) + ((1 / 4 : ℝ) : EReal) * (a * ((1 / 65536 : ℝ) : EReal))
        + b * ((1 / 65536 : ℝ) : EReal) + ((1 / 4 : ℝ) : EReal) * (b * ((1 / 65536 : ℝ) : EReal))
        + c * ((1 / 65536 : ℝ) : EReal) + ((1 / 4 : ℝ) : EReal) * (c * ((1 / 65536 : ℝ) : EReal))
        + e * ((1 / 65536 : ℝ) : EReal) + ((1 / 4 : ℝ) : EReal) * (e * ((1 / 65536 : ℝ) : EReal))
      = (a + b + c + e) * ((5 / 262144 : ℝ) : EReal) := by
  obtain ⟨a, rfl⟩ := ha
  obtain ⟨b, rfl⟩ := hb
  obtain ⟨c, rfl⟩ := hc
  obtain ⟨e, rfl⟩ := he
  rw [zero_add]
  simp only [← EReal.coe_add, ← EReal.coe_mul]
  congr 1
  ring

/-! ### The reference, codebook by codebook -/

variable (A : FVec Ideal S2048x4x32 .f32) (B : FVec Ideal S4x8192x32 .f32)

/-- The rows, split by codebook. -/
def X : Spec.Rows := fun g r d => A (ix3 r g d)
/-- The codebooks. -/
def W : Spec.Books := fun g k d => B (ix3 g k d)

variable (h : Spec.Finite (X A) (W B))
include h

/-- The reference's distances are the quantizer's. -/
theorem dist_eq (g : Fin 4) (r : Fin 2048) (k : Fin 8192) :
    dist (rows A g) (book B g) (ix2 r k) = Spec.dist (X A) (W B) g r k := by
  rw [dist_apply, two_bits]
  simp only [rows_apply, book_apply]
  rw [mul_sum_real 2 (fun d => A (ix3 r g d) * B (ix3 g k d)) fun d => .mul (h.rows g r d) (h.books g k d)]
  exact congrArg (_ - ·) (Finset.sum_congr rfl fun d _ => two_mul_real _ _ (h.rows g r d) (h.books g k d))

/-- The reference's indicator matrices are the quantizer's. -/
theorem hot_eq (g : Fin 4) (r : Fin 2048) (k : Fin 8192) : hotOf A B g (ix2 r k) = Spec.hot (X A) (W B) g r k := by
  have hd : (fun k => (dist (rows A g) (book B g) (ix2 r k) : EReal)) = Spec.dist (X A) (W B) g r :=
    funext fun k => dist_eq A B h g r k
  unfold hotOf
  rw [hot_apply, idx_apply _ r fun k => by rw [dist_eq A B h]; exact (Spec.dist_real h g r k).lt_top, hd]
  unfold Spec.hot Spec.code
  have hc := (Least.first (Spec.dist (X A) (W B) g r)).isLt
  have hk := k.isLt
  refine if_congr ?_ rfl rfl
  rw [← BitVec.toNat_inj, BitVec.toNat_ofNat, BitVec.toNat_ofNat, Nat.mod_eq_of_lt (by omega), Nat.mod_eq_of_lt (by omega),
    Fin.ext_iff]
  exact eq_comm

/-- The reference's chosen words are the quantizer's. -/
theorem word_eq (g : Fin 4) (r : Fin 2048) (d : Fin 32) : wordOf A B g (ix2 r d) = Spec.word (X A) (W B) g r d := by
  unfold wordOf
  rw [word_apply]
  exact Finset.sum_congr rfl fun k _ => congrArg₂ (· * ·) (hot_eq A B h g r k) (book_apply B g k d)

/-- The reference's mean squared error is the quantizer's squared error over the number of cells. -/
theorem mse_eq (g : Fin 4) (i : S_.Idx) :
    mse (wordOf A B g) (rows A g) i = Spec.sqErr (X A) (W B) g * ((1 / 65536 : ℝ) : EReal) := by
  rw [mse_apply, cells_bits, Ideal.div_coe (by norm_num)]
  simp only [word_eq A B h, rows_apply]
  rfl

/-- The reference's share of a word is the quantizer's. -/
theorem share_eq (g : Fin 4) (k : Fin 8192) :
    Stage.share (hotOf A B g) (ix1 k) = KernelIdeal.Points.share (Spec.count (X A) (W B) g k) := by
  rw [share_apply, rows_bits, Ideal.div_coe (by norm_num)]
  unfold KernelIdeal.Points.share
  rw [rowsInv_bits]
  simp only [hot_eq A B h]
  rfl

/-- One codebook's perplexity. -/
theorem perp_eq (prev : FVec Ideal S_ .f32) (g : Fin 4) (i : S_.Idx) :
    Stage.perp prev (hotOf A B g) i = prev i + KernelIdeal.Points.perp (Spec.count (X A) (W B) g) := by
  rw [perp_apply]
  simp only [share_eq A B h]
  unfold KernelIdeal.Points.perp KernelIdeal.Points.term
  rw [zero_sub]

/-! ### The five results -/

/-- The loss. -/
theorem lossOut_eq : lossOut A B = fun _ : S_.Idx => Ideal.div ((∑ g, Spec.sqErr (X A) (W B) g)
    * Ideal.ofBits FTy.f32 0x37A00000#32) (Ideal.ofBits FTy.f32 0x40800000#32) := by
  funext i
  refine congrArg (fun a => Ideal.div a (Ideal.ofBits FTy.f32 0x40800000#32)) ?_
  rw [weight_bits, Fin.sum_univ_four,
    ← loss_real _ _ _ _ (Spec.sqErr_real h 0) (Spec.sqErr_real h 1) (Spec.sqErr_real h 2) (Spec.sqErr_real h 3),
    ← mse_eq A B h 0 i, ← mse_eq A B h 1 i, ← mse_eq A B h 2 i, ← mse_eq A B h 3 i, ← fourth_bits, ← zero_bits]
  rfl

/-- The perplexity. -/
theorem perpOut_eq : perpOut A B = fun _ : S_.Idx => Ideal.div (∑ g, KernelIdeal.Points.perp (Spec.count (X A) (W B) g))
    (Ideal.ofBits FTy.f32 0x40800000#32) := by
  funext i
  refine congrArg (fun a => Ideal.div a (Ideal.ofBits FTy.f32 0x40800000#32)) ?_
  rw [perp_eq A B h, perp_eq A B h, perp_eq A B h, perp_eq A B h, Fin.sum_univ_four]
  rw [show zero i = (0 : EReal) from zero_bits, zero_add]

/-- The moved rows. -/
theorem movedOut_eq : movedOut A B = fun i : S2048x4x32.Idx =>
    X A (i 1) (i 0) (i 2) + (Spec.word (X A) (W B) (i 1) (i 0) (i 2) - X A (i 1) (i 0) (i 2)) := by
  funext i
  idx_vars i
  have e : movedOut A B (ix3 i0 i1 i2) = stackWords (moved (wordOf A B 0) (rows A 0)) (moved (wordOf A B 1) (rows A 1))
      (moved (wordOf A B 2) (rows A 2)) (moved (wordOf A B 3) (rows A 3)) (ix3 i1 i0 i2) := by
    pointwise [movedOut]
  rw [e, stackWords_apply (fun g => moved (wordOf A B g) (rows A g)), moved_apply, word_eq A B h, rows_apply]
  rfl

/-- The chosen words. -/
theorem wordsOut_eq : wordsOut A B = fun i : S4x2048x32.Idx => Spec.word (X A) (W B) (i 0) (i 1) (i 2) := by
  funext i
  idx_vars i
  exact (stackWords_apply (wordOf A B) _ _ _).trans (word_eq A B h _ _ _)

/-- The indicator matrices. -/
theorem hotsOut_eq : hotsOut A B = fun i : S4x2048x8192.Idx => Spec.hot (X A) (W B) (i 0) (i 1) (i 2) := by
  funext i
  idx_vars i
  exact (stackHot_apply (hotOf A B) _ _ _).trans (hot_eq A B h _ _ _)

end Cert.Equation

end
-- ==== Proof.Precondition.lean ====
/- The precondition, read: where it holds, every number of the rows and of the codebooks is a real one. -/
module

public import proofs.«01_k».proof.Defs
public import proofs.«01_k».proof.Proof.Gen.Pre_finite
public import proofs.«01_k».proof.Proof.Inputs
public import Idealize.ShloMosaic.Lib.ReduceAll

@[expose] public section

set_option maxRecDepth 16384

noncomputable section

namespace Cert.Precondition

open Idealize.ShloMosaic Idealize.SL.Sem
open Cert.KernelIdeal

local instance : Cert.Pre_finite.Facts := Cert.Pre_finite.Gen.facts

/-- The bound of the comparison is infinity. -/
theorem top_bits : Ideal.ofBits FTy.f32 0x7F800000#32 = (⊤ : EReal) := by
  simp [Ideal.ofBits, Ideal.ieee]

/-- A number whose absolute value compares below infinity is real. -/
theorem real_of_cmp (a : Ideal .f32)
    (e : FloatOps.cmpf .olt (FloatOps.absf a) (Ideal.ofBits FTy.f32 0x7F800000#32 : Ideal .f32) = 1#1) :
    Spec.Real a := by
  rw [Ideal.cmpf_def, Ideal.absf_def, top_bits] at e
  have hlt : max (a : EReal) (-a) < ⊤ := by
    by_contra hn
    simp [Ideal.cmp, hn] at e
  obtain ⟨h1, h2⟩ := max_lt_iff.1 hlt
  have hb : (a : EReal) ≠ ⊥ := by
    intro hb
    rw [hb] at h2
    simp at h2
  exact ⟨EReal.toReal a, (EReal.coe_toReal h1.ne hb).symm⟩

/-- Where the precondition holds, rows and codebooks are real. -/
theorem finite (m : (ℓ : Loc nD τ sig) → Buf (Elt Ideal) ℓ) (h : Cert.Pre_KernelIdeal_finite m) (c : Dev nD) :
    Spec.Finite (Points.X m c) (Points.W m c) := by
  have e := congrFun (h c) (fun a => a.elim0)
  dsimp only [Cert.Pre_finite.fn] at e
  obtain ⟨e0, e1⟩ := IntOp.andi_eq_one.1 e
  exact ⟨fun g r d => real_of_cmp _ (Host.reduce_andi_all _ _ _ _ _ e0 (ix3 r g d)),
    fun g k d => real_of_cmp _ (Host.reduce_andi_all _ _ _ _ _ e1 (ix3 g k d))⟩

end Cert.Precondition

end
-- ==== Proof.lean ====
/- The proof of the certificate's claims: the facts of the programs, their frames, and the agreement of kernel and
reference, put together from the modules beside this one. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite
public import proofs.«01_k».proof.Proof.Run
public import proofs.«01_k».proof.Proof.Ref.Line
public import proofs.«01_k».proof.Proof.Equation
public import proofs.«01_k».proof.Proof.Precondition

@[expose] public section

set_option maxRecDepth 16384

noncomputable section

namespace Cert.Proof

open Idealize.ShloMosaic Idealize.SL.Sem

/-- On finite rows and codebooks, kernel and reference end with the same five results. -/
theorem agree : letI := Cert.KernelIdeal.Gen.facts; letI := Cert.ReferenceIdeal.Gen.facts; letI := Cert.Pre_finite.Gen.facts
    Cert.algebraic_KernelIdeal_ReferenceIdeal_pre_finite := by
  intro m g m' g' hpre hagree
  have hf := Cert.Precondition.finite m hpre
  refine ⟨_, _, _, _, _, Cert.KernelIdeal.Points.run m g hf, ?_⟩
  refine θ_run_mono (Cert.ReferenceIdeal.Line.run m' g') fun r h c => ?_
  obtain ⟨h0, h1, h2, h3, h4, ha, hb⟩ := h c
  rw [(hagree c).1, (hagree c).2] at h0 h1 h2 h3 h4
  exact ⟨h0.trans (Cert.Equation.lossOut_eq _ _ (hf c)), h1.trans (Cert.Equation.movedOut_eq _ _ (hf c)),
    h2.trans (Cert.Equation.perpOut_eq _ _ (hf c)), h3.trans (Cert.Equation.wordsOut_eq _ _ (hf c)),
    h4.trans (Cert.Equation.hotsOut_eq _ _ (hf c)), ha, hb⟩

/-- Every claim of the certificate. -/
theorem claim : Cert.Claim :=
  ⟨Cert.Kernel.Gen.facts, Cert.KernelIdeal.Gen.facts, Cert.ReferenceIdeal.Gen.facts, Cert.Pre_finite.Gen.facts,
    fun m g _ => Cert.Kernel.Gen.frame m g, fun m g _ => Cert.KernelIdeal.Gen.frame m g,
    fun m g _ => Cert.KernelIdeal.Gen.frame m g, fun m g _ => Cert.ReferenceIdeal.Line.frame m g,
    fun m g _ => Cert.ReferenceIdeal.Line.frame m g, trivial, agree⟩

end Cert.Proof

end
